-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  bcast_S_S256x128 : S_.BroadcastsInDim S256x128 (![] : Fin 0 → Fin S256x128.rank)
  bcast_S_S512x2 : S_.BroadcastsInDim S512x2 (![] : Fin 0 → Fin S512x2.rank)

variable [Facts]

def fn {F : FTy → Type} [FloatOps F] (main_arg0 : FVec F S512x256 .f32) (main_arg1 : FVec F S256x128 .f32) (main_arg2 : IVec S512x2 32) (main_arg3 : FVec F S4x256x512 .f32) : IVec S512x256 1 × IVec S256x128 1 × IVec S512x2 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 128#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Pre_routed_ReferenceIdeal.lean ====
abbrev S512x256 : Shape := ⟨2, ![512, 256]⟩
abbrev S256x128 : Shape := ⟨2, ![256, 128]⟩
abbrev S512x2 : Shape := ⟨2, ![512, 2]⟩
abbrev S128x256x512 : Shape := ⟨3, ![128, 256, 512]⟩
abbrev S_ : Shape := ⟨0, ![]⟩

class Facts : Prop where
  bcast_S_S512x256 : S_.BroadcastsInDim S512x256 (![] : Fin 0 → Fin S512x256.rank)
  bcast_S_S256x128 : S_.BroadcastsInDim S256x128 (![] : Fin 0 → Fin S256x128.rank)
  bcast_S_S512x2 : S_.BroadcastsInDim S512x2 (![] : Fin 0 → Fin S512x2.rank)

variable [Facts]

def fn {F : FTy → Type} [FloatOps F] (main_arg0 : FVec F S512x256 .f32) (main_arg1 : FVec F S256x128 .f32) (main_arg2 : IVec S512x2 32) (main_arg3 : FVec F S128x256x512 .f32) : IVec S512x256 1 × IVec S256x128 1 × IVec S512x2 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 128#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Kernel.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S16x512 : Shape := ⟨2, ![16, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S512x128 : Shape := ⟨2, ![512, 128]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x16x512 : Shape := ⟨3, ![1, 16, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x2, .i32⟩
  | .hbm, ⟨3, _⟩ => ⟨S4x256x512, .f32⟩
  | .hbm, ⟨4, _⟩ => ⟨S16x512, .f32⟩
  | .local _ .vmem, ⟨0, _⟩ => ⟨S512x256, .f32⟩
  | .local _ .vmem, ⟨1, _⟩ => ⟨S256x128, .f32⟩
  | .local _ .vmem, ⟨2, _⟩ => ⟨S512x2, .i32⟩
  | .local _ .vmem, ⟨3, _⟩ => ⟨S4x256x512, .f32⟩
  | .local _ .vmem, ⟨4, _⟩ => ⟨S16x512, .f32⟩
  | .local _ .vmem, ⟨5, _⟩ => ⟨S512x512, .f32⟩
  | .local _ .vmem, ⟨6, _⟩ => ⟨S32x16x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_162 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v242 : BitVec 32 := Scalar.addi v2 c1_i32_162
  let c32_i32_163 : BitVec 32 := 32#32
  let v243 : BitVec 32 := Scalar.remsi v242 c32_i32_163
  let c16_i32_164 : BitVec 32 := 16#32
  let v244 : BitVec 32 := Scalar.muli v243 c16_i32_164
  let c0_i32_172 : BitVec 32 := 0#32
  ![v244.toNat, 0]
def k0_dev32 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_162 : BitVec 32 := 1#32
  let v242 : BitVec 32 := Scalar.addi v2 c1_i32_162
  let c32_i32_163 : BitVec 32 := 32#32
  let v243 : BitVec 32 := Scalar.remsi v242 c32_i32_163
  let c1_i32_168 : BitVec 32 := 1#32
  let v245 : BitVec 32 := Scalar.muli v243 c1_i32_168
  let v246 : BitVec 32 := Scalar.addi c0_i32_169 v245
  v246.toNat
def k0_dev33 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_173 : BitVec 32 := 2#32
  let v254 : BitVec 32 := Scalar.addi v2 c2_i32_173
  let c32_i32_174 : BitVec 32 := 32#32
  let v255 : BitVec 32 := Scalar.remsi v254 c32_i32_174
  let c1_i32_179 : BitVec 32 := 1#32
  let v257 : BitVec 32 := Scalar.muli v255 c1_i32_179
  let v258 : BitVec 32 := Scalar.addi c0_i32_180 v257
  v258.toNat
def k0_dev34 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_184 : BitVec 32 := 3#32
  let v266 : BitVec 32 := Scalar.addi v2 c3_i32_184
  let c32_i32_185 : BitVec 32 := 32#32
  let v267 : BitVec 32 := Scalar.remsi v266 c32_i32_185
  let c1_i32_190 : BitVec 32 := 1#32
  let v269 : BitVec 32 := Scalar.muli v267 c1_i32_190
  let v270 : BitVec 32 := Scalar.addi c0_i32_191 v269
  v270.toNat
def k0_dev35 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_195 : BitVec 32 := 4#32
  let v278 : BitVec 32 := Scalar.addi v2 c4_i32_195
  let c32_i32_196 : BitVec 32 := 32#32
  let v279 : BitVec 32 := Scalar.remsi v278 c32_i32_196
  let c1_i32_201 : BitVec 32 := 1#32
  let v281 : BitVec 32 := Scalar.muli v279 c1_i32_201
  let v282 : BitVec 32 := Scalar.addi c0_i32_202 v281
  v282.toNat
def k0_dev36 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_206 : BitVec 32 := 5#32
  let v290 : BitVec 32 := Scalar.addi v2 c5_i32_206
  let c32_i32_207 : BitVec 32 := 32#32
  let v291 : BitVec 32 := Scalar.remsi v290 c32_i32_207
  let c1_i32_212 : BitVec 32 := 1#32
  let v293 : BitVec 32 := Scalar.muli v291 c1_i32_212
  let v294 : BitVec 32 := Scalar.addi c0_i32_213 v293
  v294.toNat
def k0_dev37 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_217 : BitVec 32 := 6#32
  let v302 : BitVec 32 := Scalar.addi v2 c6_i32_217
  let c32_i32_218 : BitVec 32 := 32#32
  let v303 : BitVec 32 := Scalar.remsi v302 c32_i32_218
  let c1_i32_223 : BitVec 32 := 1#32
  let v305 : BitVec 32 := Scalar.muli v303 c1_i32_223
  let v306 : BitVec 32 := Scalar.addi c0_i32_224 v305
  v306.toNat
def k0_dev38 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_228 : BitVec 32 := 7#32
  let v314 : BitVec 32 := Scalar.addi v2 c7_i32_228
  let c32_i32_229 : BitVec 32 := 32#32
  let v315 : BitVec 32 := Scalar.remsi v314 c32_i32_229
  let c1_i32_234 : BitVec 32 := 1#32
  let v317 : BitVec 32 := Scalar.muli v315 c1_i32_234
  let v318 : BitVec 32 := Scalar.addi c0_i32_235 v317
  v318.toNat
def k0_dev39 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_239 : BitVec 32 := 8#32
  let v326 : BitVec 32 := Scalar.addi v2 c8_i32_239
  let c32_i32_240 : BitVec 32 := 32#32
  let v327 : BitVec 32 := Scalar.remsi v326 c32_i32_240
  let c1_i32_245 : BitVec 32 := 1#32
  let v329 : BitVec 32 := Scalar.muli v327 c1_i32_245
  let v330 : BitVec 32 := Scalar.addi c0_i32_246 v329
  v330.toNat
def k0_dev40 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_250 : BitVec 32 := 9#32
  let v338 : BitVec 32 := Scalar.addi v2 c9_i32_250
  let c32_i32_251 : BitVec 32 := 32#32
  let v339 : BitVec 32 := Scalar.remsi v338 c32_i32_251
  let c1_i32_256 : BitVec 32 := 1#32
  let v341 : BitVec 32 := Scalar.muli v339 c1_i32_256
  let v342 : BitVec 32 := Scalar.addi c0_i32_257 v341
  v342.toNat
def k0_dev41 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_261 : BitVec 32 := 10#32
  let v350 : BitVec 32 := Scalar.addi v2 c10_i32_261
  let c32_i32_262 : BitVec 32 := 32#32
  let v351 : BitVec 32 := Scalar.remsi v350 c32_i32_262
  let c1_i32_267 : BitVec 32 := 1#32
  let v353 : BitVec 32 := Scalar.muli v351 c1_i32_267
  let v354 : BitVec 32 := Scalar.addi c0_i32_268 v353
  v354.toNat
def k0_dev42 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_272 : BitVec 32 := 11#32
  let v362 : BitVec 32 := Scalar.addi v2 c11_i32_272
  let c32_i32_273 : BitVec 32 := 32#32
  let v363 : BitVec 32 := Scalar.remsi v362 c32_i32_273
  let c1_i32_278 : BitVec 32 := 1#32
  let v365 : BitVec 32 := Scalar.muli v363 c1_i32_278
  let v366 : BitVec 32 := Scalar.addi c0_i32_279 v365
  v366.toNat
def k0_dev43 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_283 : BitVec 32 := 12#32
  let v374 : BitVec 32 := Scalar.addi v2 c12_i32_283
  let c32_i32_284 : BitVec 32 := 32#32
  let v375 : BitVec 32 := Scalar.remsi v374 c32_i32_284
  let c1_i32_289 : BitVec 32 := 1#32
  let v377 : BitVec 32 := Scalar.muli v375 c1_i32_289
  let v378 : BitVec 32 := Scalar.addi c0_i32_290 v377
  v378.toNat
def k0_dev44 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_294 : BitVec 32 := 13#32
  let v386 : BitVec 32 := Scalar.addi v2 c13_i32_294
  let c32_i32_295 : BitVec 32 := 32#32
  let v387 : BitVec 32 := Scalar.remsi v386 c32_i32_295
  let c1_i32_300 : BitVec 32 := 1#32
  let v389 : BitVec 32 := Scalar.muli v387 c1_i32_300
  let v390 : BitVec 32 := Scalar.addi c0_i32_301 v389
  v390.toNat
def k0_dev45 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_305 : BitVec 32 := 14#32
  let v398 : BitVec 32 := Scalar.addi v2 c14_i32_305
  let c32_i32_306 : BitVec 32 := 32#32
  let v399 : BitVec 32 := Scalar.remsi v398 c32_i32_306
  let c1_i32_311 : BitVec 32 := 1#32
  let v401 : BitVec 32 := Scalar.muli v399 c1_i32_311
  let v402 : BitVec 32 := Scalar.addi c0_i32_312 v401
  v402.toNat
def k0_dev46 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_316 : BitVec 32 := 15#32
  let v410 : BitVec 32 := Scalar.addi v2 c15_i32_316
  let c32_i32_317 : BitVec 32 := 32#32
  let v411 : BitVec 32 := Scalar.remsi v410 c32_i32_317
  let c1_i32_322 : BitVec 32 := 1#32
  let v413 : BitVec 32 := Scalar.muli v411 c1_i32_322
  let v414 : BitVec 32 := Scalar.addi c0_i32_323 v413
  v414.toNat
def k0_dev47 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_327 : BitVec 32 := 16#32
  let v422 : BitVec 32 := Scalar.addi v2 c16_i32_327
  let c32_i32_328 : BitVec 32 := 32#32
  let v423 : BitVec 32 := Scalar.remsi v422 c32_i32_328
  let c1_i32_333 : BitVec 32 := 1#32
  let v425 : BitVec 32 := Scalar.muli v423 c1_i32_333
  let v426 : BitVec 32 := Scalar.addi c0_i32_334 v425
  v426.toNat
def k0_dev48 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_338 : BitVec 32 := 17#32
  let v434 : BitVec 32 := Scalar.addi v2 c17_i32_338
  let c32_i32_339 : BitVec 32 := 32#32
  let v435 : BitVec 32 := Scalar.remsi v434 c32_i32_339
  let c1_i32_344 : BitVec 32 := 1#32
  let v437 : BitVec 32 := Scalar.muli v435 c1_i32_344
  let v438 : BitVec 32 := Scalar.addi c0_i32_345 v437
  v438.toNat
def k0_dev49 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_349 : BitVec 32 := 18#32
  let v446 : BitVec 32 := Scalar.addi v2 c18_i32_349
  let c32_i32_350 : BitVec 32 := 32#32
  let v447 : BitVec 32 := Scalar.remsi v446 c32_i32_350
  let c1_i32_355 : BitVec 32 := 1#32
  let v449 : BitVec 32 := Scalar.muli v447 c1_i32_355
  let v450 : BitVec 32 := Scalar.addi c0_i32_356 v449
  v450.toNat
def k0_dev50 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_360 : BitVec 32 := 19#32
  let v458 : BitVec 32 := Scalar.addi v2 c19_i32_360
  let c32_i32_361 : BitVec 32 := 32#32
  let v459 : BitVec 32 := Scalar.remsi v458 c32_i32_361
  let c1_i32_366 : BitVec 32 := 1#32
  let v461 : BitVec 32 := Scalar.muli v459 c1_i32_366
  let v462 : BitVec 32 := Scalar.addi c0_i32_367 v461
  v462.toNat
def k0_dev51 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_371 : BitVec 32 := 20#32
  let v470 : BitVec 32 := Scalar.addi v2 c20_i32_371
  let c32_i32_372 : BitVec 32 := 32#32
  let v471 : BitVec 32 := Scalar.remsi v470 c32_i32_372
  let c1_i32_377 : BitVec 32 := 1#32
  let v473 : BitVec 32 := Scalar.muli v471 c1_i32_377
  let v474 : BitVec 32 := Scalar.addi c0_i32_378 v473
  v474.toNat
def k0_dev52 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_382 : BitVec 32 := 21#32
  let v482 : BitVec 32 := Scalar.addi v2 c21_i32_382
  let c32_i32_383 : BitVec 32 := 32#32
  let v483 : BitVec 32 := Scalar.remsi v482 c32_i32_383
  let c1_i32_388 : BitVec 32 := 1#32
  let v485 : BitVec 32 := Scalar.muli v483 c1_i32_388
  let v486 : BitVec 32 := Scalar.addi c0_i32_389 v485
  v486.toNat
def k0_dev53 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_393 : BitVec 32 := 22#32
  let v494 : BitVec 32 := Scalar.addi v2 c22_i32_393
  let c32_i32_394 : BitVec 32 := 32#32
  let v495 : BitVec 32 := Scalar.remsi v494 c32_i32_394
  let c1_i32_399 : BitVec 32 := 1#32
  let v497 : BitVec 32 := Scalar.muli v495 c1_i32_399
  let v498 : BitVec 32 := Scalar.addi c0_i32_400 v497
  v498.toNat
def k0_dev54 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_404 : BitVec 32 := 23#32
  let v506 : BitVec 32 := Scalar.addi v2 c23_i32_404
  let c32_i32_405 : BitVec 32 := 32#32
  let v507 : BitVec 32 := Scalar.remsi v506 c32_i32_405
  let c1_i32_410 : BitVec 32 := 1#32
  let v509 : BitVec 32 := Scalar.muli v507 c1_i32_410
  let v510 : BitVec 32 := Scalar.addi c0_i32_411 v509
  v510.toNat
def k0_dev55 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_415 : BitVec 32 := 24#32
  let v518 : BitVec 32 := Scalar.addi v2 c24_i32_415
  let c32_i32_416 : BitVec 32 := 32#32
  let v519 : BitVec 32 := Scalar.remsi v518 c32_i32_416
  let c1_i32_421 : BitVec 32 := 1#32
  let v521 : BitVec 32 := Scalar.muli v519 c1_i32_421
  let v522 : BitVec 32 := Scalar.addi c0_i32_422 v521
  v522.toNat
def k0_dev56 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_426 : BitVec 32 := 25#32
  let v530 : BitVec 32 := Scalar.addi v2 c25_i32_426
  let c32_i32_427 : BitVec 32 := 32#32
  let v531 : BitVec 32 := Scalar.remsi v530 c32_i32_427
  let c1_i32_432 : BitVec 32 := 1#32
  let v533 : BitVec 32 := Scalar.muli v531 c1_i32_432
  let v534 : BitVec 32 := Scalar.addi c0_i32_433 v533
  v534.toNat
def k0_dev57 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_437 : BitVec 32 := 26#32
  let v542 : BitVec 32 := Scalar.addi v2 c26_i32_437
  let c32_i32_438 : BitVec 32 := 32#32
  let v543 : BitVec 32 := Scalar.remsi v542 c32_i32_438
  let c1_i32_443 : BitVec 32 := 1#32
  let v545 : BitVec 32 := Scalar.muli v543 c1_i32_443
  let v546 : BitVec 32 := Scalar.addi c0_i32_444 v545
  v546.toNat
def k0_dev58 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_448 : BitVec 32 := 27#32
  let v554 : BitVec 32 := Scalar.addi v2 c27_i32_448
  let c32_i32_449 : BitVec 32 := 32#32
  let v555 : BitVec 32 := Scalar.remsi v554 c32_i32_449
  let c1_i32_454 : BitVec 32 := 1#32
  let v557 : BitVec 32 := Scalar.muli v555 c1_i32_454
  let v558 : BitVec 32 := Scalar.addi c0_i32_455 v557
  v558.toNat
def k0_dev59 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_459 : BitVec 32 := 28#32
  let v566 : BitVec 32 := Scalar.addi v2 c28_i32_459
  let c32_i32_460 : BitVec 32 := 32#32
  let v567 : BitVec 32 := Scalar.remsi v566 c32_i32_460
  let c1_i32_465 : BitVec 32 := 1#32
  let v569 : BitVec 32 := Scalar.muli v567 c1_i32_465
  let v570 : BitVec 32 := Scalar.addi c0_i32_466 v569
  v570.toNat
def k0_dev60 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_470 : BitVec 32 := 29#32
  let v578 : BitVec 32 := Scalar.addi v2 c29_i32_470
  let c32_i32_471 : BitVec 32 := 32#32
  let v579 : BitVec 32 := Scalar.remsi v578 c32_i32_471
  let c1_i32_476 : BitVec 32 := 1#32
  let v581 : BitVec 32 := Scalar.muli v579 c1_i32_476
  let v582 : BitVec 32 := Scalar.addi c0_i32_477 v581
  v582.toNat
def k0_dev61 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_481 : BitVec 32 := 30#32
  let v590 : BitVec 32 := Scalar.addi v2 c30_i32_481
  let c32_i32_482 : BitVec 32 := 32#32
  let v591 : BitVec 32 := Scalar.remsi v590 c32_i32_482
  let c1_i32_487 : BitVec 32 := 1#32
  let v593 : BitVec 32 := Scalar.muli v591 c1_i32_487
  let v594 : BitVec 32 := Scalar.addi c0_i32_488 v593
  v594.toNat
def k0_dev62 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_492 : BitVec 32 := 31#32
  let v602 : BitVec 32 := Scalar.addi v2 c31_i32_492
  let c32_i32_493 : BitVec 32 := 32#32
  let v603 : BitVec 32 := Scalar.remsi v602 c32_i32_493
  let c1_i32_498 : BitVec 32 := 1#32
  let v605 : BitVec 32 := Scalar.muli v603 c1_i32_498
  let v606 : BitVec 32 := Scalar.addi c0_i32_499 v605
  v606.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_503 : BitVec 32 := 16#32
  let v614 : BitVec 32 := Scalar.muli v2 c16_i32_503
  let v615 : Index := Scalar.indexCast v614
  let c0_504 : Index := 0#32
  ![v615.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x2 : Shape := ⟨2, ![512, 2]⟩
abbrev S128x256x512 : Shape := ⟨3, ![128, 256, 512]⟩
abbrev S512x128 : Shape := ⟨2, ![512, 128]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x2, .i32⟩
  | .hbm, ⟨3, _⟩ => ⟨S128x256x512, .f32⟩
  | .hbm, ⟨4, _⟩ => ⟨S512x128, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x128, .f32⟩
  | .hbm, ⟨15, _⟩ => ⟨S512x128, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Cells.lean ====
/-
# The kernel's buffers and semaphores, cut among the devices

The kernel runs on 32 devices. Device `c` fills a 512 × 512 buffer, `partial`, cut into 32 blocks of
16 rows; block `b` belongs to device `b`. A second buffer, `gather`, has 32 slots of 16 × 512; slot `s`
of device `c` receives device `c + s`'s block for `c` (device numbers add modulo 32).
This module names the blocks, the slots and the semaphores, says which buffer elements each holds, and
splits both buffers into them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The memrefs -/

/-- The `partial` and `gather` buffers. -/
abbrev pM : Memref sig .tc .vmem S512x512 .f32 := Memref.whole cc0_scratch0
abbrev gM : Memref sig .tc .vmem S32x16x512 .f32 := Memref.whole cc0_scratch1

/-- Sixteen rows from row `16 b` on lie in `partial`. -/
theorem row_inb (b : Fin 32) : ∀ a, (![16 * b.val, 0] : Fin 2 → Nat) a + S16x512.size a ≤ S512x512.size a := by
  revert b; decide
/-- Slot `s` lies in `gather`. -/
theorem slot_inb (s : Fin 32) : ∀ a, (![s.val, 0, 0] : Fin 3 → Nat) a + S1x16x512.size a ≤ S32x16x512.size a := by
  revert s; decide

/-- Block `b` of `partial`: its rows from `16 b` on, sixteen of them. -/
abbrev rowM (b : Fin 32) : Memref sig .tc .vmem S16x512 .f32 :=
  pM.slice (Rect.unit (s := S512x512) ![16 * b.val, 0] S16x512.size (row_inb b)) (fun _ => rfl)
/-- Slot `s` of `gather`. -/
abbrev slotM (s : Fin 32) : Memref sig .tc .vmem S16x512 .f32 :=
  (gM.slice (Rect.unit (s := S32x16x512) ![s.val, 0, 0] S1x16x512.size (slot_inb s)) (fun _ => rfl)).squeeze S16x512 squeezes_S1x16x512_S16x512

/-- The elements of block `b`; of slot `s`. -/
abbrev rowSet (b : Fin 32) : Finset S512x512.Idx := (rowM b).view.set
abbrev slotSet (s : Fin 32) : Finset S32x16x512.Idx := (slotM s).view.set

/-- Block `b` holds the elements whose row divided by sixteen is `b`. -/
theorem mem_rowSet (b : Fin 32) (i : S512x512.Idx) : i ∈ rowSet b ↔ (i 0).val / 16 = b.val := by
  have hs : rowSet b = (Rect.unit (s := S512x512) ![16 * b.val, 0] S16x512.size (row_inb b)).set := View.set_slice_whole cc0_scratch0 _
  rw [hs]
  refine Rect.mem_set_unit.trans ?_
  have h1 := (i 1).isLt
  constructor
  · intro h
    have := h 0
    simp at this
    omega
  · intro h a
    fin_cases a
    · simp; omega
    · simp; exact h1

/-- Slot `s` holds the elements whose first coordinate is `s`. -/
theorem mem_slotSet (s : Fin 32) (i : S32x16x512.Idx) : i ∈ slotSet s ↔ (i 0).val = s.val := by
  have hs : slotSet s = (Rect.unit (s := S32x16x512) ![s.val, 0, 0] S1x16x512.size (slot_inb s)).set :=
    (View.set_reshape _ _).trans (View.set_slice_whole cc0_scratch1 _)
  rw [hs]
  refine Rect.mem_set_unit.trans ?_
  have h1 := (i 1).isLt
  have h2 := (i 2).isLt
  constructor
  · intro h
    have := h 0
    simp at this
    omega
  · intro h a
    fin_cases a
    · simp; omega
    · simp; exact h1
    · simp; exact h2

theorem rowSet_disjoint (b b' : Fin 32) (h : b ≠ b') : Disjoint (rowSet b) (rowSet b') :=
  Finset.disjoint_left.mpr fun i hi hi' => h (Fin.ext (((mem_rowSet b i).mp hi).symm.trans ((mem_rowSet b' i).mp hi')))
theorem rowSet_cover : Finset.univ.biUnion rowSet = Finset.univ :=
  Finset.eq_univ_of_forall fun i => Finset.mem_biUnion.mpr
    ⟨⟨(i 0).val / 16, by have := (i 0).isLt; show _ < 32; change (i 0).val < 512 at this; omega⟩, Finset.mem_univ _, (mem_rowSet _ i).mpr rfl⟩
theorem slotSet_disjoint (s s' : Fin 32) (h : s ≠ s') : Disjoint (slotSet s) (slotSet s') :=
  Finset.disjoint_left.mpr fun i hi hi' => h (Fin.ext (((mem_slotSet s i).mp hi).symm.trans ((mem_slotSet s' i).mp hi')))
theorem slotSet_cover : Finset.univ.biUnion slotSet = Finset.univ :=
  Finset.eq_univ_of_forall fun i => Finset.mem_biUnion.mpr ⟨i 0, Finset.mem_univ _, (mem_slotSet _ i).mpr rfl⟩

/-! ## The semaphores -/

/-- The barrier semaphore, the same in every kernel of its number and not scoped to this one. -/
abbrev barS : Sem sig := (SemArray.scalar (sig.barrier 0 rfl) : Sems sig S_).sem
theorem sem_inb (r : Fin 32) : ∀ a, (![r.val] : Fin 1 → Nat) a + S1.size a ≤ S32.size a := by revert r; decide
/-- Entry `r` of the array of send semaphores; of the array of receive semaphores. -/
abbrev sendS (r : Fin 32) : DmaSem sig :=
  (((cc0_scratch2 : DmaSems sig S32).slice (Rect.unit (s := S32) ![r.val] S1.size (sem_inb r))).squeeze S_ squeezes_S1_S_).sem
abbrev recvS (s : Fin 32) : DmaSem sig :=
  (((cc0_scratch3 : DmaSems sig S32).slice (Rect.unit (s := S32) ![s.val] S1.size (sem_inb s))).squeeze S_ squeezes_S1_S_).sem

abbrev barCell (c : Dev nD) : GSem nD τ sig := ((c : Thread nD τ), .reg barS)
abbrev sendCell (c : Dev nD) (r : Fin 32) : GSem nD τ sig := ((c : Thread nD τ), .dma (sendS r))
abbrev recvCell (c : Dev nD) (s : Fin 32) : GSem nD τ sig := ((c : Thread nD τ), .dma (recvS s))

theorem sendS_inj : Function.Injective sendS := by decide
theorem recvS_inj : Function.Injective recvS := by decide
theorem send_ne_recv : ∀ r s, sendS r ≠ recvS s := by decide

end Cert.KernelIdealRun
end
-- ==== Proof.Contents.lean ====
/-
# What the copies leave

`gath P c` is what device `c`'s gather buffer ends holding when each device `d`'s `partial` holds `P d`:
slot `s` is block `c` of device `c + s`'s. This module shows that each of the copies, and the kernel's own store
of its block into slot 0, leaves exactly those values in its slot.
-/
module

public import proofs.«01_k».proof.Proof.Cells
public import Idealize.ShloMosaic.Lib.Pointwise
public import Idealize.ShloMosaic.Lib.Pipeline.Value

@[expose] public section

set_option maxRecDepth 16384

noncomputable section

namespace Cert.KernelIdealRun

open Cert.KernelIdeal Cert.KernelIdeal.Gen
open Idealize.ShloMosaic
open Idealize.ShloMosaic.TcCoe

variable {F : FTy → Type} [FloatOps F]

/-- Row `i` of block `b`, as a row of `partial`. -/
abbrev rowOf (b : Fin 32) (i : Fin 16) : Fin 512 := ⟨16 * b.val + i.val, by omega⟩

/-- Device `c`'s gathered slots, out of every device's `partial`. -/
def gath (P : Dev nD → S512x512.Idx → Elt F .f32) (c : Dev nD) : S32x16x512.Idx → Elt F .f32 :=
  fun i => P ((c : Fin 32) + (show Fin 32 from i 0)) (ix2 (rowOf c (i 1)) (i 2))

/-- Element `(i, h)` of block `b` is element `(16 b + i, h)` of `partial`. -/
theorem rowM_emb (b : Fin 32) (x : S16x512.Idx) : (rowM b).view.emb x = (ix2 (rowOf b (x 0)) (x 1) : S512x512.Idx) := by
  show (Rect.unit (s := S512x512) ![16 * b.val, 0] S16x512.size (row_inb b)).emb x = _
  funext a
  refine Fin.ext ?_
  match a with
  | ⟨0, _⟩ => simp [Rect.emb_apply]
  | ⟨1, _⟩ => simp [Rect.emb_apply]

/-- Element `(i, h)` of slot `s` is element `(s, i, h)` of `gather`. -/
theorem slotM_emb (s : Fin 32) (x : S16x512.Idx) : (slotM s).view.emb x = (ix3 s (x 0) (x 1) : S32x16x512.Idx) := by
  show (Rect.unit (s := S32x16x512) ![s.val, 0, 0] S1x16x512.size (slot_inb s)).emb (Shape.reshapeEquiv _ x) = _
  rw [Shape.reshapeEquiv_cons_one]
  funext a
  refine Fin.ext ?_
  match a with
  | ⟨0, _⟩ => simp [Rect.emb_apply]; rfl
  | ⟨1, _⟩ => simp [Rect.emb_apply]; rfl
  | ⟨2, _⟩ => simp [Rect.emb_apply]; rfl

/-- Device `c`'s copy of block `b` into slot `s` of device `b` leaves `gath P b` there, when slot `s` of `b` is `c`'s. -/
theorem landed_eq (P : Dev nD → S512x512.Idx → Elt F .f32) (c b : Dev nD) (s : Fin 32) (h : b + s = c)
    (fd : S32x16x512.Idx → Elt F .f32) : ∀ i ∈ slotSet s,
      (slotM s).view.write (Elt F) fd ((rowM b).view.read (Elt F) (P c)) Finset.univ i = gath P b i := by
  intro i hi
  obtain ⟨x, -, rfl⟩ := Finset.mem_map.mp hi
  rw [View.write_emb_of_mem (v := (slotM s).view) (h := Finset.mem_univ x)]
  rw [View.read_apply, slotM_emb, rowM_emb]
  subst h
  rfl

/-- The block stored into slot 0 is the block loaded, read through a leading axis of length one. -/
theorem pay14_apply (v : Vec F S16x512 .f32) (x : S1x16x512.Idx) : k0_pay14 v x = v (ix2 (x 1) (x 2)) := by
  have hx : x = Shape.reshapeEquiv (s := S1x16x512) (s' := S16x512) shapeCasts_S16x512_S1x16x512.symm (ix2 (x 1) (x 2)) := by
    rw [Shape.reshapeEquiv_cons_one]
    funext a
    match a with
    | ⟨0, _⟩ => exact Subsingleton.elim (α := Fin 1) _ _
    | ⟨1, _⟩ => rfl
    | ⟨2, _⟩ => rfl
  have e : k0_pay14 v = shapeCast S1x16x512 v shapeCasts_S16x512_S1x16x512 := shapeCast_self _ _
  rw [e]
  refine congrArg v ?_
  conv_lhs => rw [hx]
  rw [Shape.reshapeEquiv_reshapeEquiv, Shape.reshapeEquiv_self]

/-- The kernel's own block, loaded from `partial` and stored into slot 0, is `gath P c` there. -/
theorem own_eq (P : Dev nD → S512x512.Idx → Elt F .f32) (c : Dev nD) (f : S32x16x512.Idx → Elt F .f32)
    (h : ∀ a, (![0, 0, 0] : Fin 3 → Nat) a + S1x16x512.size a ≤ S32x16x512.size a) : ∀ i ∈ slotSet 0,
      (gM.access (Rect.unit (s := S32x16x512) ![0, 0, 0] S1x16x512.size h)).write (Elt F) f
        (k0_pay14 (pM.view.readAt (Elt F) (Rect.unit (s := S512x512) (k0_off2 c) S16x512.size (k0_off2_inb c)).toLoadRect (P c)))
        Finset.univ i = gath P c i := by
  intro i hi
  have hi0 : (i 0).val = 0 := (mem_slotSet 0 i).mp hi
  obtain ⟨x, rfl⟩ : ∃ x, (gM.access (Rect.unit (s := S32x16x512) ![0, 0, 0] S1x16x512.size h)).emb x = i := by
    refine ⟨ix3 0 (i 1) (i 2), ?_⟩
    show (Rect.unit (s := S32x16x512) ![0, 0, 0] S1x16x512.size h).emb _ = i
    funext a
    refine Fin.ext ?_
    match a with
    | ⟨0, _⟩ => simp [Rect.emb_apply, hi0]
    | ⟨1, _⟩ => simp [Rect.emb_apply]
    | ⟨2, _⟩ => simp [Rect.emb_apply]
  rw [View.write_emb_of_mem (v := gM.access (Rect.unit (s := S32x16x512) ![0, 0, 0] S1x16x512.size h)) (h := Finset.mem_univ x), pay14_apply]
  have he : (gM.access (Rect.unit (s := S32x16x512) ![0, 0, 0] S1x16x512.size h)).emb x = ix3 0 (x 1) (x 2) := by
    show (Rect.unit (s := S32x16x512) ![0, 0, 0] S1x16x512.size h).emb x = _
    funext a
    refine Fin.ext ?_
    match a with
    | ⟨0, _⟩ => simp [Rect.emb_apply]; exact congrArg Fin.val (Subsingleton.elim (α := Fin 1) (x 0) 0)
    | ⟨1, _⟩ => simp [Rect.emb_apply]
    | ⟨2, _⟩ => simp [Rect.emb_apply]
  rw [he]
  show P c ((Rect.unit (s := S512x512) (k0_off2 c) S16x512.size (k0_off2_inb c)).emb (ix2 (x 1) (x 2))) = P ((c : Fin 32) + 0) (ix2 (rowOf c (x 1)) (x 2))
  rw [add_zero]
  refine congrArg (P c) ?_
  have ho := k0_off2_eq c
  funext a
  refine Fin.ext ?_
  match a with
  | ⟨0, _⟩ => simp [Rect.emb_apply, ho]
  | ⟨1, _⟩ => simp [Rect.emb_apply, ho]

end Cert.KernelIdealRun
end
-- ==== Proof.Protocol.lean ====
/-
# Who signals whom, who owes what, and in what order the devices wait

Each device is sent one unit on its barrier semaphore by every other device, and one block of `partial` into every slot
of its `gather` but slot 0. Each of those is one duty of a cell at round 0:

* device `c`'s barrier cell has the duties `d ≠ 0`, one unit each; `d` is paid by device `c - d`, and hands over
  slot `d` of THAT device's gather buffer, which is the slot `c` copies into;
* device `c`'s receive cell `s ≠ 0` has one duty, paid by the copy device `c + s` makes; it hands over slot `s`, filled;
* device `c`'s send cell `r ≠ 0` has one duty, paid by `c`'s own copy to device `c + r`; it hands the block back.

A device waits at its barrier owing copies only, and everywhere later owing nothing, so barrier cells stand at
level 1, receive cells at level 2 and every other cell at level 0.
-/
module

public import proofs.«01_k».proof.Proof.Contents

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Every device's `partial`, as the copies read it. -/
abbrev Partials (F : FTy → Type) [FloatOps F] : Type := Dev nD → S512x512.Idx → Elt F .f32

variable (P : Partials F)

/-- Device `c` plus `r` steps. -/
abbrev up (c : Dev nD) (r : Fin 32) : Dev nD := (c : Fin 32) + r
abbrev down (c : Dev nD) (r : Fin 32) : Dev nD := (c : Fin 32) - r

theorem down_up (c : Dev nD) (r : Fin 32) : down (up c r) r = c := add_sub_cancel_right (c : Fin 32) r
theorem up_down (c : Dev nD) (r : Fin 32) : up (down c r) r = c := sub_add_cancel (c : Fin 32) r
theorem down_neg (c : Dev nD) (r : Fin 32) : down c (-r) = up c r := sub_neg_eq_add (c : Fin 32) r
theorem up_neg (c : Dev nD) (r : Fin 32) : up c (-r) = down c r := (sub_eq_add_neg (c : Fin 32) r).symm

/-- The credit of one block's copy. -/
abbrev N : ℕ := (slotM 0).view.dmaCredit
theorem N_pos : 0 < N := View.dmaCredit_pos _ (by decide)
theorem N_slot (s : Fin 32) : (slotM s).view.dmaCredit = N := rfl
theorem N_row (b : Fin 32) : (rowM b).view.dmaCredit = N := rfl

/-- Slot `s` of device `c`'s gather buffer, held at `f`; block `b` of its `partial`. -/
def slotPts (c : Dev nD) (s : Fin 32) (f : S32x16x512.Idx → Elt F .f32) : sProp 𝕄 :=
  (slotM s).view.loc (c : Thread nD τ) ↦[(slotM s).view.set]{fullShare} f
def rowPts (c : Dev nD) (b : Fin 32) (f : S512x512.Idx → Elt F .f32) : sProp 𝕄 :=
  (rowM b).view.loc (c : Thread nD τ) ↦[(rowM b).view.set]{fullShare} f

instance slotPts_storable (c : Dev nD) (s : Fin 32) (f) : BI.Storable (upEmb : UEmb _ 𝕄) (slotPts (F := F) c s f) := by
  unfold slotPts; infer_instance
instance rowPts_storable (c : Dev nD) (b : Fin 32) (f) : BI.Storable (upEmb : UEmb _ 𝕄) (rowPts (F := F) c b f) := by
  unfold rowPts; infer_instance

/-! ## The cells -/

/-- The cells of a device: its barrier, its send cells, its receive cells. -/
abbrev Cix : Type := Option (Bool × Fin 32)
abbrev csem : Cix → SemLoc sig
  | none => .reg barS
  | some (false, r) => .dma (sendS r)
  | some (true, s) => .dma (recvS s)
abbrev kcell (ck : Dev nD × Cix) : GSem nD τ sig := ((ck.1 : Thread nD τ), csem ck.2)

/-- Which of a device's cells a semaphore is, if any. -/
def semIx : SemLoc sig → Option Cix
  | .reg q => if q = barS then some none else none
  | .dma q =>
    have hq : q.val < 69 := q.isLt
    if h : q.val < 5 then none
    else if h' : q.val < 37 then some (some (false, ⟨q.val - 5, by omega⟩))
    else some (some (true, ⟨q.val - 37, by omega⟩))

theorem semIx_csem (i : Cix) : semIx (csem i) = some i := by
  revert i; decide
theorem semIx_bar : semIx (.reg barS) = some none := semIx_csem none
theorem semIx_send (r : Fin 32) : semIx (.dma (sendS r)) = some (some (false, r)) := semIx_csem (some (false, r))
theorem semIx_recv (s : Fin 32) : semIx (.dma (recvS s)) = some (some (true, s)) := semIx_csem (some (true, s))
theorem csem_injective : Function.Injective csem := fun i j h => by
  have := (semIx_csem i).symm.trans ((congrArg semIx h).trans (semIx_csem j))
  exact Option.some.inj this
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The schedule -/

/-- What duty `d` of device `c`'s barrier cell hands over: slot `d` of device `c - d`'s gather buffer. -/
def barPay (c : Dev nD) (d : Fin 32) : sProp 𝕄 := iprop(∃ f, slotPts (down c d) d f)

def rd : Rounds.Schedule (GSem nD τ sig) (Fin 32) 𝕄 where
  duties g r := if r = 0 ∧ g.1.2 = .tc then
      match semIx g.2 with
      | some none => Finset.univ.erase 0
      | some (some (_, s)) => if s = 0 then ∅ else {0}
      | none => ∅
    else ∅
  unitless _ := False
  amount g _ _ := match semIx g.2 with
    | some none => 1
    | _ => N
  payload g _ d := match semIx g.2 with
    | some none => barPay g.1.1 d
    | some (some (false, r)) => rowPts g.1.1 (up g.1.1 r) (P g.1.1)
    | some (some (true, s)) => slotPts g.1.1 s (gath P g.1.1)
    | none => iprop(emp)
  amount_pos g _ _ _ := by
    split
    · exact Nat.one_pos
    · exact N_pos

instance rd_payload_storable (g : GSem nD τ sig) (r : ℕ) (d : Fin 32) :
    BI.Storable (upEmb : UEmb _ 𝕄) ((rd P).payload g r d) := by
  unfold rd barPay
  dsimp only
  (repeat' split) <;> infer_instance

section Sched
variable (c : Dev nD)

theorem duties_bar : (rd P).duties (barCell c) 0 = Finset.univ.erase 0 := by
  dsimp only [rd]; rw [if_pos ⟨rfl, rfl⟩, semIx_bar]
theorem duties_send {r : Fin 32} (hr : r ≠ 0) : (rd P).duties (sendCell c r) 0 = {0} := by
  dsimp only [rd]; rw [if_pos ⟨rfl, rfl⟩, semIx_send]; exact if_neg hr
theorem duties_recv {s : Fin 32} (hs : s ≠ 0) : (rd P).duties (recvCell c s) 0 = {0} := by
  dsimp only [rd]; rw [if_pos ⟨rfl, rfl⟩, semIx_recv]; exact if_neg hs
theorem duties_later (g : GSem nD τ sig) : ∀ r, 1 ≤ r → (rd P).duties g r = ∅ :=
  fun r hr => by dsimp only [rd]; exact if_neg fun h => by omega
/-- The send and receive cells numbered 0 are never used. -/
theorem duties_zero (b : Bool) : ∀ r, 0 ≤ r → (rd P).duties (kcell (c, some (b, 0))) r = ∅ :=
  fun r _ => by
    dsimp only [rd]
    by_cases h : r = 0 ∧ (kcell (c, some (b, 0))).1.2 = .tc
    · rw [if_pos h, semIx_csem]; exact if_pos rfl
    · exact if_neg h

theorem amount_bar (d : Fin 32) : (rd P).amount (barCell c) 0 d = 1 := by dsimp only [rd]; rw [semIx_bar]
theorem amount_send (r d : Fin 32) : (rd P).amount (sendCell c r) 0 d = N := by dsimp only [rd]; rw [semIx_send]
theorem amount_recv (s d : Fin 32) : (rd P).amount (recvCell c s) 0 d = N := by dsimp only [rd]; rw [semIx_recv]

theorem expect_bar : (rd P).expect (barCell c) 0 = 31 := by
  unfold Schedule.expect Schedule.amountOf
  rw [duties_bar, Finset.sum_congr rfl fun d _ => amount_bar P c d, Finset.sum_const]; rfl
theorem expect_send {r : Fin 32} (hr : r ≠ 0) : (rd P).expect (sendCell c r) 0 = N := by
  unfold Schedule.expect Schedule.amountOf; rw [duties_send P c hr, Finset.sum_singleton, amount_send]
theorem expect_recv {s : Fin 32} (hs : s ≠ 0) : (rd P).expect (recvCell c s) 0 = N := by
  unfold Schedule.expect Schedule.amountOf; rw [duties_recv P c hs, Finset.sum_singleton, amount_recv]

theorem payload_bar (d : Fin 32) : (rd P).payload (barCell c) 0 d = barPay c d := by dsimp only [rd]; rw [semIx_bar]
theorem payload_send (r d : Fin 32) : (rd P).payload (sendCell c r) 0 d = rowPts c (up c r) (P c) := by
  dsimp only [rd]; rw [semIx_send]
theorem payload_recv (s d : Fin 32) : (rd P).payload (recvCell c s) 0 d = slotPts c s (gath P c) := by
  dsimp only [rd]; rw [semIx_recv]

theorem rest_bar : bigSep ((rd P).duties (barCell c) 0 \ ∅) (fun d => (rd P).payload (barCell c) 0 d) = bigSep (Finset.univ.erase 0) (barPay c) := by
  rw [Finset.sdiff_empty, duties_bar]; exact bigSep_congr fun d _ => payload_bar P c d
theorem rest_send {r : Fin 32} (hr : r ≠ 0) :
    bigSep ((rd P).duties (sendCell c r) 0 \ ∅) (fun d => (rd P).payload (sendCell c r) 0 d) = rowPts c (up c r) (P c) := by
  rw [Finset.sdiff_empty, duties_send P c hr, bigSep_singleton, payload_send]
theorem rest_recv {s : Fin 32} (hs : s ≠ 0) :
    bigSep ((rd P).duties (recvCell c s) 0 \ ∅) (fun d => (rd P).payload (recvCell c s) 0 d) = slotPts c s (gath P c) := by
  rw [Finset.sdiff_empty, duties_recv P c hs, bigSep_singleton, payload_recv]

end Sched

/-! ## Counting through the steps -/

/-- The steps still to come at step `k`, and those behind it. -/
def ahead (k : ℕ) : Finset (Fin 32) := Finset.univ.filter fun r => k ≤ r.val
def behind (k : ℕ) : Finset (Fin 32) := Finset.univ.filter fun r => 1 ≤ r.val ∧ r.val < k

theorem ahead_peel (r : Fin 32) : ahead r.val = insert r (ahead (r.val + 1)) := by revert r; decide
theorem not_mem_ahead (r : Fin 32) : r ∉ ahead (r.val + 1) := by revert r; decide
theorem ahead_one : ahead 1 = Finset.univ.erase 0 := by decide
theorem ahead_end : ahead 32 = ∅ := by decide
theorem behind_push (r : Fin 32) (hr : r ≠ 0) : behind (r.val + 1) = insert r (behind r.val) := by revert r; decide
theorem not_mem_behind (r : Fin 32) : r ∉ behind r.val := by revert r; decide
theorem behind_one : behind 1 = ∅ := by decide
theorem behind_end : behind 32 = Finset.univ.erase 0 := by decide

/-! ## What each device owes; the levels -/

/-- The units device `c` owes barriers from step `k` on, and the copies it owes from step `k` on. -/
def OB (c : Dev nD) (k : ℕ) : CellTallies nD τ sig Unit := ∑ r ∈ ahead k, tallyAt (barCell (up c r)) () 1
def OR (c : Dev nD) (k : ℕ) : CellTallies nD τ sig Unit := ∑ r ∈ ahead k, tallyAt (recvCell (up c r) (-r)) () N
def O₀ (c : Dev nD) : CellTallies nD τ sig Unit := OR c 1 + OB c 1

theorem OB_peel (c : Dev nD) (r : Fin 32) : OB c r.val = OB c (r.val + 1) + tallyAt (barCell (up c r)) () 1 := by
  unfold OB; rw [ahead_peel, Finset.sum_insert (not_mem_ahead r), add_comm]
theorem OR_peel (c : Dev nD) (r : Fin 32) : OR c r.val = OR c (r.val + 1) + tallyAt (recvCell (up c r) (-r)) () N := by
  unfold OR; rw [ahead_peel, Finset.sum_insert (not_mem_ahead r), add_comm]
theorem OB_end (c : Dev nD) : OB c 32 = 0 := by unfold OB; rw [ahead_end, Finset.sum_empty]
theorem OR_end (c : Dev nD) : OR c 32 = 0 := by unfold OR; rw [ahead_end, Finset.sum_empty]

theorem OB_pos {c : Dev nD} {k : ℕ} {g : GSem nD τ sig} {u : Unit} (h : 0 < OB c k g u) : ∃ r ∈ ahead k, g = barCell (up c r) := by
  unfold OB at h
  rw [Finset.sum_apply, Finsupp.finset_sum_apply] at h
  obtain ⟨r, hr, h'⟩ := Finset.exists_ne_zero_of_sum_ne_zero (Nat.pos_iff_ne_zero.mp h)
  refine ⟨r, hr, ?_⟩
  by_contra hn
  exact h' (by rw [tallyAt_apply, if_neg fun h'' => hn h''.1])
theorem OR_pos {c : Dev nD} {k : ℕ} {g : GSem nD τ sig} {u : Unit} (h : 0 < OR c k g u) : ∃ r ∈ ahead k, g = recvCell (up c r) (-r) := by
  unfold OR at h
  rw [Finset.sum_apply, Finsupp.finset_sum_apply] at h
  obtain ⟨r, hr, h'⟩ := Finset.exists_ne_zero_of_sum_ne_zero (Nat.pos_iff_ne_zero.mp h)
  refine ⟨r, hr, ?_⟩
  by_contra hn
  exact h' (by rw [tallyAt_apply, if_neg fun h'' => hn h''.1])

def L (g : GSem nD τ sig) : Finset Unit := if g.1.2 = .tc then {()} else ∅
/-- Barrier cells at 1, receive cells at 2, every other cell at 0. -/
def lv (g : GSem nD τ sig) (_ : Unit) : ℕ := match semIx g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [semIx_bar]
theorem lv_recv (c : Dev nD) (s : Fin 32) : lv (recvCell c s) () = 2 := by unfold lv; rw [semIx_recv]

/-- At its barrier wait a device owes receive cells only, which stand above its barrier cell. -/
theorem mayWait_bar (c : Dev nD) : (levAts L lv : sProp 𝕄) ⊢ MayWait (c : Thread nD τ) (.reg barS) () (OR c 1) :=
  MayOwe.of_cut (L := L) (lev := lv) 1 (fun p hp => by rw [Finset.mem_singleton.mp hp, L_tc]; exact Finset.mem_singleton_self _)
    (fun g u hg => by obtain ⟨r, -, rfl⟩ := OR_pos hg; exact Finset.mem_singleton_self _)
    (fun p hp => by rw [Finset.mem_singleton.mp hp]; exact le_of_eq (lv_bar c))
    (fun g u hg => by obtain ⟨r, -, rfl⟩ := OR_pos hg; cases u; rw [lv_recv]; decide)

/-- The staging copies may be waited for whatever the device owes: their cells stand at the bottom. -/
theorem mayWait_stage (c : Dev nD) (q : DmaSem sig) (hq : semIx (.dma q) = none) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (() ∈ L g) ∧ 0 < lv g () := fun g u hg => by
      unfold O₀ at hg
      rw [Pi.add_apply, Finsupp.add_apply] at hg
      rcases Nat.eq_zero_or_pos (OR c 1 g u) with h0 | h0
      · obtain ⟨r, -, rfl⟩ := OB_pos (c := c) (k := 1) (g := g) (u := u) (by omega)
        exact ⟨Finset.mem_singleton_self _, by rw [lv_bar]; decide⟩
      · obtain ⟨r, -, rfl⟩ := OR_pos h0
        exact ⟨Finset.mem_singleton_self _, by rw [lv_recv]; decide⟩
    exact MayOwe.of_cut (L := L) (lev := lv) 0 (fun p hp => by rw [Finset.mem_singleton.mp hp, L_tc]; exact Finset.mem_singleton_self _)
      (fun g u hg => (key g u hg).1)
      (fun p hp => by rw [Finset.mem_singleton.mp hp]; dsimp only [lv]; rw [hq])
      (fun g u hg => (key g u hg).2)
  · rw [MayWait_zero]; iintro -; iempintro

end Cert.KernelIdealRun
end
-- ==== Proof.Steps.lean ====
/-
# The kernel's steps

The kernel runs four chains of thirty-one like steps: the signals, the copies, the waits for the blocks to come in and
the waits for the blocks to have gone out. Each chain has one state, indexed by the step it has come to, and one lemma
for its step at a symbolic device.
-/
module

public import proofs.«01_k».proof.Proof.Protocol

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

section Chains

variable (P : Partials F) (K : Dev nD × Cix → ℕ)

/-- Every cell's invariant, at the names `K`, and that every cell has reached round 0. -/
def records : sProp 𝕄 :=
  iprop((bigSep Finset.univ fun ck : Dev nD × Cix => cellInv ER (rd P) (K ck) (kcell ck))
    ∗ bigSep Finset.univ fun ck : Dev nD × Cix => reached ER (kcell ck) 0)

instance records_persistent : BI.Persistent (records P K) := by unfold records; infer_instance

/-- One more term of a separating conjunction; one term of it. -/
theorem bigSep_push {I : Type} [DecidableEq I] {s : Finset I} {i : I} (h : i ∉ s) (Φ : I → sProp 𝕄) :
    bigSep (insert i s) Φ = iprop(Φ i ∗ bigSep s Φ) := BI.bigSep_insert h
theorem bigSep_one {I : Type} [DecidableEq I] {s : Finset I} {i : I} (h : i ∈ s) (Φ : I → sProp 𝕄) : bigSep s Φ ⊢ Φ i := BI.bigSep_elim h

theorem inv_at (ck : Dev nD × Cix) : records P K ⊢ cellInv ER (rd P) (K ck) (kcell ck) := by
  unfold records; iintro ⟨H, -⟩; iapply (bigSep_one (Finset.mem_univ ck) fun ck => (cellInv ER (rd P) (K ck) (kcell ck) : sProp 𝕄)); iexact H
theorem reached_at (ck : Dev nD × Cix) : records P K ⊢ reached ER (kcell ck) 0 := by
  unfold records; iintro ⟨-, H⟩; iapply (bigSep_one (Finset.mem_univ ck) fun ck => (reached ER (kcell ck) 0 : sProp 𝕄)); iexact H

/-- A chain at step `k`: what device `c` owes there, `Φ` of the steps to come, `Ψ` of the steps behind. -/
def Chain (c : Dev nD) (O : ℕ → CellTallies nD τ sig Unit) (Φ Ψ : Fin 32 → sProp 𝕄) (k : ℕ) : sProp 𝕄 :=
  iprop((∃ W, owes (c : Thread nD τ) (O k) W) ∗ bigSep (ahead k) Φ ∗ bigSep (behind k) Ψ)

/-- A chain at step `r` is that step's own part and the rest of the chain. -/
theorem chain_open (c : Dev nD) (O : ℕ → CellTallies nD τ sig Unit) (Φ Ψ : Fin 32 → sProp 𝕄) (r : Fin 32) :
    Chain c O Φ Ψ r.val ⊢ iprop((∃ W, owes (c : Thread nD τ) (O r.val) W) ∗ Φ r ∗ bigSep (ahead (r.val + 1)) Φ ∗ bigSep (behind r.val) Ψ) := by
  unfold Chain
  rw [ahead_peel, bigSep_push (not_mem_ahead r)]
  iintro ⟨H1, ⟨H2, H3⟩, H4⟩
  isplitl [H1]; · iexact H1
  isplitl [H2]; · iexact H2
  isplitl [H3] <;> iassumption
theorem chain_close (c : Dev nD) (O : ℕ → CellTallies nD τ sig Unit) (Φ Ψ : Fin 32 → sProp 𝕄) (r : Fin 32) (hr : r ≠ 0) :
    iprop((∃ W, owes (c : Thread nD τ) (O (r.val + 1)) W) ∗ Ψ r ∗ bigSep (ahead (r.val + 1)) Φ ∗ bigSep (behind r.val) Ψ) ⊢ Chain c O Φ Ψ (r.val + 1) := by
  unfold Chain
  rw [behind_push r hr, bigSep_push (not_mem_behind r)]
  iintro ⟨H1, H2, H3, H4⟩
  isplitl [H1]; · iexact H1
  isplitl [H3]; · iexact H3
  isplitl [H2] <;> iassumption

/-- The signals: a step to come holds its duty's token and the slot it hands over. -/
def Sig (c : Dev nD) : ℕ → sProp 𝕄 :=
  Chain c (fun k => OR c 1 + OB c k) (fun r => iprop(dutyTok ER (barCell (up c r)) 0 r ∗ ∃ f, slotPts c r f)) (fun _ => iprop(emp))
/-- The copies: a step to come holds the block it sends, the slot it fills and the tokens of its two duties; a step behind
    the credit its wait spends. -/
def Snd (c : Dev nD) : ℕ → sProp 𝕄 :=
  Chain c (OR c) (fun r => iprop((rowPts c (up c r) (P c) ∗ ∃ f, slotPts (up c r) (-r) f)
      ∗ dutyTok ER (sendCell c r) 0 0 ∗ dutyTok ER (recvCell (up c r) (-r)) 0 0))
    (fun r => cred (tallyAt (sendCell c r) () N))
/-- The waits for blocks coming in: a step behind holds its slot, filled, and its semaphore at zero. -/
def Rcv (c : Dev nD) : ℕ → sProp 𝕄 :=
  Chain c (fun _ => 0) (fun s => iprop(cred (tallyAt (recvCell c s) () N) ∗ atPos ER (recvCell c s) 0 ∅ 0))
    (fun s => iprop(slotPts c s (gath P c) ∗ semVal (recvCell c s) 0))
/-- The waits for blocks gone out: a step behind holds its block again and its semaphore at zero. -/
def Out (c : Dev nD) : ℕ → sProp 𝕄 :=
  Chain c (fun _ => 0) (fun r => iprop(cred (tallyAt (sendCell c r) () N) ∗ atPos ER (sendCell c r) 0 ∅ 0))
    (fun r => iprop(rowPts c (up c r) (P c) ∗ semVal (sendCell c r) 0))

end Chains

variable {P : Partials F} {K : Dev nD × Cix → ℕ}
variable {α : Type} {k : PUnit → Prog (TpuEff nD τ sig (Elt F) Λ₀ .tc) α}
variable {Q : α → sProp (MT nD τ sig Unit (Elt F) ℕ UU ℕ)} {R : sProp (MT nD τ sig Unit (Elt F) ℕ UU ℕ)}

/-- The block a copy reads starts at row `16 (c + r)`. -/
theorem off_eq (c : Dev nD) (r : Fin 31) : k0_off1 c (BitVec.ofNat 32 (1 + r.val)) = ![16 * (up c r.succ).val, 0] := by
  rw [k0_off1_eq]
  have : ((up c r.succ).val : Nat) = (c.val + (r.val + 1)) % 32 := rfl
  rw [this, Nat.add_assoc]

/-- Device `c`'s signal to device `c + r`. -/
theorem signal_step (c n : Dev nD) (r : Fin 32) (hn : n = up c r) {j : ℤ} (hr : r ≠ 0 := by decide) (hj : j = (1 : ℕ) := by rfl)
    (h : iprop(records P K ∗ Sig c (r.val + 1) ∗ R) ⊢ wp frame (wpE (defs₀ (F := F)) 𝒱₀ (c : Thread nD τ) none) Set.univ (k ⟨⟩) Q) :
    iprop(records P K ∗ Sig c r.val ∗ R)
      ⊢ wp frame (wpE (defs₀ (F := F)) 𝒱₀ (c : Thread nD τ) none) Set.univ (.op (.semSignal (n, .tc) barS j) k) Q := by
  subst hn hj
  unfold Sig at *
  iintro ⟨#Hrec, Hs, HR⟩
  ihave Hs' := (chain_open c _ _ _ r) $$ Hs
  icases Hs' with ⟨⟨%W, HO⟩, ⟨Htok, Hslot⟩, Ha, Hb⟩
  iapply (Rounds.wp_signal 𝒱₀ ER (rd P) (c : Thread nD τ) none (dst := (up c r : Thread nD τ)) (κ := K (up c r, none)) (r := 0)
      (d := r) (by rw [duties_bar]; exact Finset.mem_erase.mpr ⟨hr, Finset.mem_univ _⟩) (amount_bar P (up c r) r) () (O₀ := OR c 1 + OB c r.val) (OR c 1 + OB c (r.val + 1))
      (by rw [OB_peel, add_assoc])) $$ [HO Htok Hslot]
  · isplitr; · iapply (inv_at P K (up c r, none)); iexact Hrec
    isplitl [HO]; · iexact HO
    isplitl [Htok]; · iexact Htok
    isplitl [Hslot]; · rw [payload_bar]; unfold barPay; rw [down_up]; iexact Hslot
    iapply (reached_at P K (up c r, none)); iexact Hrec
  iintro HO
  iapply h
  isplitr; · iexact Hrec
  isplitl [HO Ha Hb]
  · iapply (chain_close c _ _ _ r hr)
    isplitl [HO]; · iexists W; iexact HO
    isplitr; · iempintro
    isplitl [Ha] <;> iassumption
  iexact HR

theorem erase_neg : (Finset.univ.erase (0 : Fin 32)) = (Finset.univ.erase (0 : Fin 32)).map (Equiv.neg (Fin 32)).toEmbedding := by decide

/-- What the barrier hands over, named by the step that will use it: slot `-r` of device `c + r`. -/
theorem barPay_eq (c : Dev nD) :
    (bigSep (Finset.univ.erase 0) (barPay c) : sProp 𝕄) = bigSep (Finset.univ.erase 0) fun r => iprop(∃ f, slotPts (up c r) (-r) f) := by
  rw [erase_neg, bigSep_map, ← erase_neg]
  refine bigSep_congr fun r _ => ?_
  unfold barPay
  show iprop(∃ f, slotPts (down c (-r)) (-r) f) = _
  rw [down_neg]

/-- Device `c`'s wait at its barrier: every signal sent, it gets the slots its copies will fill, and is done with the barrier. -/
theorem barrier_step (c : Dev nD) {j : ℤ} (hj : j = (31 : ℕ))
    (h : iprop(records P K ∗ ((∃ W, owes (c : Thread nD τ) (OR c 1) W) ∗ semVal (barCell c) 0
        ∗ bigSep (Finset.univ.erase 0) fun r => iprop(∃ f, slotPts (up c r) (-r) f)) ∗ R)
      ⊢ wp frame (wpE (defs₀ (F := F)) 𝒱₀ (c : Thread nD τ) none) Set.univ (k ⟨⟩) Q) :
    iprop(records P K ∗ Sig c 32 ∗ levAts L lv ∗ cred (tallyAt (barCell c) () 31) ∗ atPos ER (barCell c) 0 ∅ 0 ∗ R)
      ⊢ wp frame (wpE (defs₀ (F := F)) 𝒱₀ (c : Thread nD τ) none) Set.univ (.op (.semWait barS j) k) Q := by
  subst hj
  unfold Sig Chain
  dsimp only
  rw [OB_end, add_zero]
  iintro ⟨#Hrec, ⟨⟨%W, HO⟩, -⟩, #Hlev, Hc, Hat, HR⟩
  iapply (Rounds.wp_wait_rest_token 𝒱₀ ER (rd P) (c : Thread nD τ) none (κ := K (c, none))
      (wpE_semWait_eq 𝒱₀ (c : Thread nD τ) none Set.univ) (Set.mem_univ _) () (O := OR c 1) (W := W) (R := 0) (m := 0) (T := ∅)
      (by rw [expect_bar])) $$ [Hc HO Hat]
  · isplitr; · iapply (inv_at P K (c, none)); iexact Hrec
    isplitl [Hc]; · iexact Hc
    isplitl [HO]; · iexact HO
    isplitr; · iapply (mayWait_bar c); iexact Hlev
    iexact Hat
  iintro ⟨HO, Hat, -, Hpay⟩
  ihave Hp := (Entails.of_eq ((rest_bar P c).trans (barPay_eq c))) $$ Hpay
  imod (Rounds.cell_close ER (rd P) (Set.mem_univ (K (c, none))) (fun h => h) (R := 0 + 1) (duties_later P (barCell c))) $$ [Hat] with Hz
  · isplitr; · iapply (inv_at P K (c, none)); iexact Hrec
    iexact Hat
  iapply h
  isplitr; · iexact Hrec
  isplitl [HO Hz Hp]
  · isplitl [HO]; · iexists _; iexact HO
    isplitl [Hz] <;> iassumption
  iexact HR

/-- The copy of block `c + r` into slot `-r` of device `c + r`, as a landing of the two cells' duties. -/
theorem wp_send_at (c : Dev nD) (r : Fin 32) (hr : r ≠ 0)
    {hsc : (slotM (-r)).view.ref.isScScratch = false} {hsrc : (rowM (up c r)).view.WordExact} {hdst : (slotM (-r)).view.WordExact}
    {hsem : DmaTarget.Typed .vmem (.dma (recvS (-r))) (.remote (Dev.tc (up c r) : Thread nD τ) (slotM (-r)) (.dma (sendS r)) hsc)}
    (fd : S32x16x512.Idx → Elt F .f32) (W : Waits sig Unit) :
    iprop(cellInv ER (rd P) (K (c, some (false, r))) (sendCell c r) ∗ cellInv ER (rd P) (K (up c r, some (true, -r))) (recvCell (up c r) (-r))
        ∗ rowPts c (up c r) (P c) ∗ slotPts (up c r) (-r) fd ∗ owes (c : Thread nD τ) (OR c r.val) W
        ∗ dutyTok ER (sendCell c r) 0 0 ∗ reached ER (sendCell c r) 0 ∗ dutyTok ER (recvCell (up c r) (-r)) 0 0 ∗ reached ER (recvCell (up c r) (-r)) 0)
      ⊢ iprop(((cred (tallyAt (sendCell c r) () N) ∗ owes (c : Thread nD τ) (OR c (r.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM (up c r)) (.remote (Dev.tc (up c r) : Thread nD τ) (slotM (-r)) (.dma (sendS r)) hsc) (.dma (recvS (-r))) hsrc hdst hsem) k) Q) := by
  have hr' : -r ≠ 0 := fun h => hr (neg_eq_zero.mp h)
  have h1 : (0 : Fin 32) ∈ (rd P).duties (sendCell c r) 0 := by rw [duties_send P c hr]; exact Finset.mem_singleton_self _
  have h2 : (0 : Fin 32) ∈ (rd P).duties (recvCell (up c r) (-r)) 0 := by rw [duties_recv P _ hr']; exact Finset.mem_singleton_self _
  have h3 : rowPts c (up c r) (P c) ⊢ (rd P).payload (sendCell c r) 0 0 := by rw [payload_send]
  have h4 : slotPts (up c r) (-r) ((slotM (-r)).view.write (Elt F) fd ((rowM (up c r)).view.read (Elt F) (P c)) Finset.univ)
      ⊢ (rd P).payload (recvCell (up c r) (-r)) 0 0 := by
    rw [payload_recv]
    exact Entails.of_eq (pointsTo_congr (landed_eq P c (up c r) (-r) (by exact (up_neg (up c r) r).trans (down_up c r)) fd))
  unfold rowPts slotPts
  unfold rowPts at h3
  unfold slotPts at h4
  exact Rounds.wp_send_pointsTo 𝒱₀ ER (rd P) (c : Thread nD τ) none (c' := (up c r : Thread nD τ)) (src := rowM (up c r)) (dst := slotM (-r))
    (sS := .dma (sendS r)) (sem := .dma (recvS (-r))) (κ₁ := K (c, some (false, r))) (κ₂ := K (up c r, some (true, -r)))
    (r₁ := 0) (r₂ := 0) (d₁ := 0) (d₂ := 0) (fs := P c) (fd := fd) h1 h2 () () N rfl (amount_send P c r 0) (amount_recv P (up c r) (-r) 0)
    (OR c (r.val + 1)) (OR_peel c r) (W := W) h3 h4

/-- Device `c`'s copy of block `c + r` of its `partial` into slot `-r` of device `c + r`. -/
theorem send_step (c n : Dev nD) (r s : Fin 32) (hn : n = up c r) {o : Fin 2 → Nat} (ho : o = ![16 * (up c r).val, 0])
    (hr : r ≠ 0 := by decide) (hs : s = -r := by decide) {hin : ∀ a, o a + S16x512.size a ≤ S512x512.size a}
    {hsc : (slotM s).view.ref.isScScratch = false}
    {hsrc : (pM.slice (Rect.unit (s := S512x512) o S16x512.size hin) (fun _ => rfl)).view.WordExact} {hdst : (slotM s).view.WordExact}
    {hsem : DmaTarget.Typed .vmem (.dma (recvS s)) (.remote (Dev.tc n : Thread nD τ) (slotM s) (.dma (sendS r)) hsc)}
    (h : iprop(records P K ∗ Snd P c (r.val + 1) ∗ R) ⊢ wp frame (wpE (defs₀ (F := F)) 𝒱₀ (c : Thread nD τ) none) Set.univ (k ⟨⟩) Q) :
    iprop(records P K ∗ Snd P c r.val ∗ R)
      ⊢ wp frame (wpE (defs₀ (F := F)) 𝒱₀ (c : Thread nD τ) none) Set.univ
          (.op (.enqueueDma (pM.slice (Rect.unit (s := S512x512) o S16x512.size hin) (fun _ => rfl))
            (.remote (Dev.tc n : Thread nD τ) (slotM s) (.dma (sendS r)) hsc) (.dma (recvS s)) hsrc hdst hsem) k) Q := by
  subst hn hs ho
  unfold Snd at *
  iintro ⟨#Hrec, Hs, HR⟩
  ihave Hs' := (chain_open c _ _ _ r) $$ Hs
  icases Hs' with ⟨⟨%W, HO⟩, ⟨⟨Hrow, ⟨%fd, Hslot⟩⟩, Ht₁, Ht₂⟩, Ha, Hb⟩
  iapply (wp_send_at (P := P) (K := K) c r hr fd W) $$ [Hrow Hslot HO Ht₁ Ht₂]
  · isplitr; · iapply (inv_at P K (c, some (false, r))); iexact Hrec
    isplitr; · iapply (inv_at P K (up c r, some (true, -r))); iexact Hrec
    isplitl [Hrow]; · iexact Hrow
    isplitl [Hslot]; · iexact Hslot
    isplitl [HO]; · iexact HO
    isplitl [Ht₁]; · iexact Ht₁
    isplitr; · iapply (reached_at P K (c, some (false, r))); iexact Hrec
    isplitl [Ht₂]; · iexact Ht₂
    iapply (reached_at P K (up c r, some (true, -r))); iexact Hrec
  iintro ⟨Hc, HO⟩
  iapply h
  isplitr; · iexact Hrec
  isplitl [HO Hc Ha Hb]
  · iapply (chain_close c _ _ _ r hr)
    isplitl [HO]; · iexists W; iexact HO
    isplitl [Hc]; · iexact Hc
    isplitl [Ha] <;> iassumption
  iexact HR

/-- Device `c`'s wait for one DMA cell of its own, numbered other than 0, owing nothing: it gets the cell's one payload and
    the semaphore at zero. -/
theorem wait_cell (c : Dev nD) (ix : Bool × Fin 32) (q : DmaSem sig) (hq : csem (some ix) = .dma q) (pay : sProp 𝕄)
    (hE : (rd P).expect ((c : Thread nD τ), .dma q) 0 = N)
    (hP : bigSep ((rd P).duties ((c : Thread nD τ), .dma q) 0 \ ∅) (fun d => (rd P).payload ((c : Thread nD τ), .dma q) 0 d) = pay)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = N) :
    iprop(records P K ∗ (∃ W, owes (c : Thread nD τ) 0 W) ∗ cred (tallyAt ((c : Thread nD τ), .dma q) () N) ∗ atPos ER ((c : Thread nD τ), .dma q) 0 ∅ 0)
      ⊢ iprop((((∃ W, owes (c : Thread nD τ) 0 W) ∗ pay ∗ semVal ((c : Thread nD τ), .dma q) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hP
  have hcell : kcell (c, some ix) = ((c : Thread nD τ), SemLoc.dma q) := congrArg (Prod.mk _) hq
  iintro ⟨#Hrec, ⟨%W, HO⟩, Hc, Hat⟩ Hk
  ihave #Hinv := (inv_at P K (c, some ix)) $$ Hrec
  rw [hcell]
  iapply (Rounds.wp_wait_rest_token 𝒱₀ ER (rd P) (c : Thread nD τ) none (κ := K (c, some ix))
      (wpE_waitDma2_eq 𝒱₀ (c : Thread nD τ) none Set.univ) (Set.mem_univ _) () (O := 0) (W := W) (R := 0) (m := 0) (T := ∅)
      (by rw [Nat.zero_add, hE, hN])) $$ [Hc HO Hat]
  · isplitr; · iexact Hinv
    isplitl [Hc]; · rw [hN]; iexact Hc
    isplitl [HO]; · iexact HO
    isplitr; · rw [MayWait_zero]; iempintro
    iexact Hat
  iintro ⟨HO, Hat, -, Hpay⟩
  imod (Rounds.cell_close ER (rd P) (Set.mem_univ (K (c, some ix))) (fun h => h) (R := 0 + 1) (duties_later P _)) $$ [Hat] with Hz
  · isplitr; · iexact Hinv
    iexact Hat
  iapply Hk
  isplitl [HO]; · iexists _; iexact HO
  isplitl [Hpay] <;> iassumption

/-- Device `c`'s wait for slot `s` to be filled. -/
theorem recv_step (c : Dev nD) (s : Fin 32) (hs : s ≠ 0 := by decide)
    {sp sp' : Space} {t t' : Shape} {e e' : EltTy} {κ' : Kind} {src : Memref sig .tc sp' t' e'} {dst : Memref sig κ' sp t e}
    {hsrc : src.view.WordExact} {hdst : dst.view.WordExact} (hN : dst.view.dmaCredit = N := by rfl)
    (h : iprop(records P K ∗ Rcv P c (s.val + 1) ∗ R) ⊢ wp frame (wpE (defs₀ (F := F)) 𝒱₀ (c : Thread nD τ) none) Set.univ (k ⟨⟩) Q) :
    iprop(records P K ∗ Rcv P c s.val ∗ R)
      ⊢ wp frame (wpE (defs₀ (F := F)) 𝒱₀ (c : Thread nD τ) none) Set.univ (.op (.waitDma2 (recvS s) src dst hsrc hdst) k) Q := by
  unfold Rcv at *
  iintro ⟨#Hrec, Hs, HR⟩
  ihave Hs' := (chain_open c _ _ _ s) $$ Hs
  icases Hs' with ⟨HO, ⟨Hc, Hat⟩, Ha, Hb⟩
  iapply (wait_cell (K := K) c (true, s) (recvS s) rfl _ (expect_recv P c hs) (rest_recv P c hs) hN) $$ [HO Hc Hat]
  · isplitr; · iexact Hrec
    isplitl [HO]; · iexact HO
    isplitl [Hc] <;> iassumption
  iintro ⟨HO, Hpay, Hz⟩
  iapply h
  isplitr; · iexact Hrec
  isplitl [HO Hpay Hz Ha Hb]
  · iapply (chain_close c _ _ _ s hs)
    isplitl [HO]; · iexact HO
    isplitl [Hpay Hz]
    · isplitl [Hpay] <;> iassumption
    isplitl [Ha] <;> iassumption
  iexact HR

/-- Device `c`'s wait for its block `c + r` to have gone out. -/
theorem out_step (c : Dev nD) (r : Fin 32) (hr : r ≠ 0 := by decide)
    {sp sp' : Space} {t t' : Shape} {e e' : EltTy} {κ' : Kind} {src : Memref sig .tc sp' t' e'} {dst : Memref sig κ' sp t e}
    {hsrc : src.view.WordExact} {hdst : dst.view.WordExact} (hN : dst.view.dmaCredit = N := by rfl)
    (h : iprop(records P K ∗ Out P c (r.val + 1) ∗ R) ⊢ wp frame (wpE (defs₀ (F := F)) 𝒱₀ (c : Thread nD τ) none) Set.univ (k ⟨⟩) Q) :
    iprop(records P K ∗ Out P c r.val ∗ R)
      ⊢ wp frame (wpE (defs₀ (F := F)) 𝒱₀ (c : Thread nD τ) none) Set.univ (.op (.waitDma2 (sendS r) src dst hsrc hdst) k) Q := by
  unfold Out at *
  iintro ⟨#Hrec, Hs, HR⟩
  ihave Hs' := (chain_open c _ _ _ r) $$ Hs
  icases Hs' with ⟨HO, ⟨Hc, Hat⟩, Ha, Hb⟩
  iapply (wait_cell (K := K) c (false, r) (sendS r) rfl _ (expect_send P c hr) (rest_send P c hr) hN) $$ [HO Hc Hat]
  · isplitr; · iexact Hrec
    isplitl [HO]; · iexact HO
    isplitl [Hc] <;> iassumption
  iintro ⟨HO, Hpay, Hz⟩
  iapply h
  isplitr; · iexact Hrec
  isplitl [HO Hpay Hz Ha Hb]
  · iapply (chain_close c _ _ _ r hr)
    isplitl [HO]; · iexact HO
    isplitl [Hpay Hz]
    · isplitl [Hpay] <;> iassumption
    isplitl [Ha] <;> iassumption
  iexact HR

end Cert.KernelIdealRun
end
-- ==== Proof.Body.lean ====
/-
# The kernel on one device

The body of the kernel at a symbolic device `c`: from its signals to its last wait, through the four chains of steps and the
loads and stores between them. `partialOf` is the table of partial products the device computes, `gath` the gathered slots;
the result it stores is the sum of the slots.
-/
module

public import proofs.«01_k».proof.Proof.Steps

@[expose] public section

set_option maxRecDepth 65536

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S512x256 .f32 := Memref.whole cc0_stg0_0
abbrev rwM : Memref sig .tc .vmem S256x128 .f32 := Memref.whole cc0_stg1_0
abbrev idxM : Memref sig .tc .vmem S512x2 .i32 := Memref.whole cc0_stg2_0
abbrev ewM : Memref sig .tc .vmem S4x256x512 .f32 := Memref.whole cc0_stg3_0
abbrev oM : Memref sig .tc .vmem S16x512 .f32 := Memref.whole cc0_stg4_0

/-! ## What a device computes -/

/-- The word the kernel names its device by. -/
abbrev devWord (c : Dev nD) : BitVec 32 := Scalar.remsi (Scalar.divsi (Dev.word c) 1#32) 32#32

/-- The rows and the router's weights, as the kernel loads them. -/
abbrev xAll (gx : Vec F S512x256 .f32) : Vec F S512x256 .f32 :=
  xM.view.readAt (Elt F) (Rect.unit (s := S512x256) ![0, 0] ![512, 256] inb_S512x256_S512x256_0_0).toLoadRect gx
abbrev rwAll (gr : Vec F S256x128 .f32) : Vec F S256x128 .f32 :=
  rwM.view.readAt (Elt F) (Rect.unit (s := S256x128) ![0, 0] ![256, 128] inb_S256x128_S256x128_0_0).toLoadRect gr
/-- Column `j` of the routes; expert `e` of the device's four. -/
abbrev col0 (gi : Vec F S512x2 .i32) : Vec F S512x1 .i32 :=
  idxM.view.readAt (Elt F) (Rect.unit (s := S512x2) ![0, 0] ![512, 1] inb_S512x2_S512x1_0_0).toLoadRect gi
abbrev col1 (gi : Vec F S512x2 .i32) : Vec F S512x1 .i32 :=
  idxM.view.readAt (Elt F) (Rect.unit (s := S512x2) ![0, 1] ![512, 1] inb_S512x2_S512x1_0_1).toLoadRect gi
abbrev expert (e : Nat) (h : ∀ a, (![e, 0, 0] : Fin 3 → Nat) a + S1x256x512.size a ≤ S4x256x512.size a) (gw : Vec F S4x256x512 .f32) : Vec F S1x256x512 .f32 :=
  ewM.view.readAt (Elt F) (Rect.unit (s := S4x256x512) ![e, 0, 0] ![1, 256, 512] h).toLoadRect gw

/-- The table device `c` stores into `partial`, from its rows, the router's weights, the routes and its experts' weights. -/
def partialOf (c : Dev nD) (gx : Vec F S512x256 .f32) (gr : Vec F S256x128 .f32) (gi : Vec F S512x2 .i32) (gw : Vec F S4x256x512 .f32) :
    Vec F S512x512 .f32 :=
  k0_pay13 (devWord c) (k0_pay1 (xAll gx)) (k0_pay3 (col0 gi)) (k0_pay4 (col1 gi))
    (k0_pay9 (k0_pay2 (xAll gx) (rwAll gr)) (k0_pay5 (xAll gx) (rwAll gr) (col0 gi)) (k0_pay6 (col1 gi)))
    (k0_pay10 (k0_pay2 (xAll gx) (rwAll gr)) (k0_pay5 (xAll gx) (rwAll gr) (col0 gi)) (k0_pay6 (col1 gi)))
    (k0_pay11 (devWord c) (k0_pay1 (xAll gx)) (k0_pay2 (xAll gx) (rwAll gr)) (k0_pay3 (col0 gi)) (k0_pay4 (col1 gi)) (k0_pay5 (xAll gx) (rwAll gr) (col0 gi)) (k0_pay6 (col1 gi))
      (expert 0 inb_S4x256x512_S1x256x512_0_0_0 gw))
    (k0_pay12 (devWord c) (k0_pay1 (xAll gx)) (k0_pay2 (xAll gx) (rwAll gr)) (k0_pay3 (col0 gi)) (k0_pay4 (col1 gi)) (k0_pay5 (xAll gx) (rwAll gr) (col0 gi)) (k0_pay6 (col1 gi))
      (expert 1 inb_S4x256x512_S1x256x512_1_0_0 gw))
    (expert 2 inb_S4x256x512_S1x256x512_2_0_0 gw) (expert 3 inb_S4x256x512_S1x256x512_3_0_0 gw)

/-! ## The two scratch buffers, held whole and held in blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- `partial` held whole is its thirty-two blocks, named by the step that sends them. -/
theorem rows_split (c : Dev nD) (f : S512x512.Idx → Elt F .f32) :
    ((((c : Thread nD τ).loc cc0_scratch0) ↦{fullShare} f) : sProp 𝕄)
      = iprop(rowPts c (up c 0) f ∗ bigSep (Finset.univ.erase 0) fun r => rowPts c (up c r) f) := by
  have h : ((((c : Thread nD τ).loc cc0_scratch0) ↦{fullShare} f) : sProp 𝕄) = bigSep Finset.univ fun b : Fin 32 => rowPts c b f :=
    Ring.pointsTo_blocks (ℓ := (c : Thread nD τ).loc cc0_scratch0) rowSet rowSet_disjoint rowSet_cover f
  rw [h, bigSep_univ_equiv (Equiv.addLeft (c : Fin 32)), bigSep_univ_at _ (0 : Fin 32)]
  rfl
/-- `gather` held whole is its thirty-two slots. -/
theorem slots_split (c : Dev nD) (f : S32x16x512.Idx → Elt F .f32) :
    ((((c : Thread nD τ).loc cc0_scratch1) ↦{fullShare} f) : sProp 𝕄)
      = iprop(slotPts c 0 f ∗ bigSep (Finset.univ.erase 0) fun s => slotPts c s f) := by
  have h : ((((c : Thread nD τ).loc cc0_scratch1) ↦{fullShare} f) : sProp 𝕄) = bigSep Finset.univ fun s : Fin 32 => slotPts c s f :=
    Ring.pointsTo_blocks (ℓ := (c : Thread nD τ).loc cc0_scratch1) slotSet slotSet_disjoint slotSet_cover f
  rw [h, bigSep_univ_at _ (0 : Fin 32)]

/-- The block and the slot as a load through the whole buffer takes them. -/
theorem rowPts_eq (c : Dev nD) (b : Fin 32) (f : S512x512.Idx → Elt F .f32) :
    rowPts c b f = (pM.view.loc (c : Thread nD τ) ↦[(rowM b).view.set]{fullShare} f) := rfl
theorem slotPts_eq (c : Dev nD) (s : Fin 32) (f : S32x16x512.Idx → Elt F .f32) :
    slotPts c s f = (gM.view.loc (c : Thread nD τ) ↦[(slotM s).view.set]{fullShare} f) := rfl

/-- The rows a device keeps are the block numbered by it; the slot it stores them into is slot 0. -/
theorem own_rows (c : Dev nD) {o : Fin 2 → Nat} (ho : o = ![16 * c.val, 0]) (h : ∀ a, o a + S16x512.size a ≤ S512x512.size a) :
    pM.view.setOn (Rect.unit (s := S512x512) o S16x512.size h).toLoadRect.set ⊆ (rowM (up c 0)).view.set := by
  have hc : up c 0 = c := add_zero (c : Fin 32)
  rw [hc]; subst ho
  exact (View.set_slice _ _).symm.subset
theorem own_slot_store (h : ∀ a, (![0, 0, 0] : Fin 3 → Nat) a + S1x16x512.size a ≤ S32x16x512.size a) :
    (gM.access (Rect.unit (s := S32x16x512) ![0, 0, 0] S1x16x512.size h)).set ⊆ (slotM 0).view.set :=
  (View.set_reshape _ _).symm.subset
theorem own_slot_load (h : ∀ a, (![0, 0, 0] : Fin 3 → Nat) a + S1x16x512.size a ≤ S32x16x512.size a) :
    gM.view.setOn (Rect.unit (s := S32x16x512) ![0, 0, 0] S1x16x512.size h).toLoadRect.set ⊆ (slotM 0).view.set :=
  (View.set_slice _ _).symm.subset.trans (own_slot_store h)

/-! ## The body -/

variable (P : Partials F) (K : Dev nD × Cix → ℕ)

/-- The tokens and credits device `c`'s body starts from, after those of the barrier. -/
def bodyStart (c : Dev nD) : sProp 𝕄 :=
  iprop((bigSep (Finset.univ.erase 0) fun r => iprop(dutyTok ER (sendCell c r) 0 0 ∗ dutyTok ER (recvCell (up c r) (-r)) 0 0))
    ∗ (bigSep (Finset.univ.erase 0) fun s => iprop(cred (tallyAt (recvCell c s) () N) ∗ atPos ER (recvCell c s) 0 ∅ 0))
    ∗ bigSep (Finset.univ.erase 0) fun r => atPos ER (sendCell c r) 0 ∅ 0)

/-- What it ends with: nothing owed, every semaphore it used at zero, the scratch buffers whole. -/
def bodyEnd (c : Dev nD) : sProp 𝕄 :=
  iprop((∃ W, owes (c : Thread nD τ) 0 W) ∗ semVal (barCell c) 0
    ∗ (bigSep (Finset.univ.erase 0) fun s => semVal (recvCell c s) 0) ∗ (bigSep (Finset.univ.erase 0) fun r => semVal (sendCell c r) 0)
    ∗ (((c : Thread nD τ).loc cc0_scratch0) ↦{fullShare} P c) ∗ (((c : Thread nD τ).loc cc0_scratch1) ↦{fullShare} gath P c))

/-- The four inputs' staging buffers and the result's. -/
def staged (c : Dev nD) (gx : Vec F S512x256 .f32) (gr : Vec F S256x128 .f32) (gi : Vec F S512x2 .i32) (gw : Vec F S4x256x512 .f32)
    (go : Vec F S16x512 .f32) : sProp 𝕄 :=
  iprop((((c : Thread nD τ).loc cc0_stg0_0) ↦{fullShare} gx) ∗ (((c : Thread nD τ).loc cc0_stg1_0) ↦{fullShare} gr)
    ∗ (((c : Thread nD τ).loc cc0_stg2_0) ↦{fullShare} gi) ∗ (((c : Thread nD τ).loc cc0_stg3_0) ↦{fullShare} gw)
    ∗ (((c : Thread nD τ).loc cc0_stg4_0) ↦{fullShare} go))

/-- What the body holds beside the chain of signals and the barrier's token: the continuation takes the end of the body. -/
def bodyRest (c : Dev nD) (gx : Vec F S512x256 .f32) (gr : Vec F S256x128 .f32) (gi : Vec F S512x2 .i32) (gw : Vec F S4x256x512 .f32)
    (go : Vec F S16x512 .f32) (gp : Vec F S512x512 .f32) (gg : Vec F S32x16x512 .f32) (Kt : PUnit → sProp 𝕄) : sProp 𝕄 :=
  iprop(bodyStart c ∗ staged c gx gr gi gw go ∗ (((c : Thread nD τ).loc cc0_scratch0) ↦{fullShare} gp)
    ∗ slotPts c 0 gg ∗ (iprop(bodyEnd P c ∗ staged c gx gr gi gw (k0_pay15 (gath P c))) -∗ Kt ⟨⟩))

variable {P K}

/-- What is held, with the records and the chain at hand brought to the front. -/
theorem refocus {A B R G : sProp 𝕄} (h : iprop(A ∗ B ∗ R) ⊢ G) : iprop(R ∗ A ∗ B) ⊢ G := by
  iintro ⟨HR, HA, HB⟩
  iapply h
  isplitl [HA]; · iexact HA
  isplitl [HB] <;> iassumption

/-- The table, stored whole into `partial`, as its blocks. -/
theorem table_rows (c : Dev nD) (gp : Vec F S512x512 .f32) {w : Vec F S512x512 .f32} (hw : P c = w) :
    ((((pM.access (Rect.unit (s := S512x512) ![0, 0] S512x512.size inb_S512x512_S512x512_0_0)).loc (c : Thread nD τ)) ↦{fullShare}
        ((pM.access (Rect.unit (s := S512x512) ![0, 0] S512x512.size inb_S512x512_S512x512_0_0)).write (Elt F) gp w Finset.univ)) : sProp 𝕄)
      ⊢ iprop(rowPts c (up c 0) (P c) ∗ bigSep (Finset.univ.erase 0) fun r => rowPts c (up c r) (P c)) := by
  subst hw
  rw [← rows_split c (P c)]
  exact Entails.of_eq (congrArg (fun w => (((c : Thread nD τ).loc cc0_scratch0 ↦{fullShare} w) : sProp 𝕄))
    (Memref.write_access_unit_zero_univ (Elt F) cc0_scratch0 hz2 inb_S512x512_S512x512_0_0 gp (P c)))

/-- The device's own rows, stored into slot 0, are what the gathered table has there. -/
theorem own_slot_rows (c : Dev nD) (gg : Vec F S32x16x512 .f32) (h : ∀ a, (![0, 0, 0] : Fin 3 → Nat) a + S1x16x512.size a ≤ S32x16x512.size a) :
    ((((gM.access (Rect.unit (s := S32x16x512) ![0, 0, 0] S1x16x512.size h)).loc (c : Thread nD τ)) ↦[(slotM 0).view.set]{fullShare}
        ((gM.access (Rect.unit (s := S32x16x512) ![0, 0, 0] S1x16x512.size h)).write (Elt F) gg
          (k0_pay14 (pM.view.readAt (Elt F) (Rect.unit (s := S512x512) (k0_off2 c) S16x512.size (k0_off2_inb c)).toLoadRect (P c))) Finset.univ)) : sProp 𝕄)
      ⊢ slotPts c 0 (gath P c) :=
  Entails.of_eq (pointsTo_congr (own_eq P c gg h))

/-- The chain of copies, put together once the table is stored. -/
theorem snd_intro (c : Dev nD) :
    iprop((∃ W, owes (c : Thread nD τ) (OR c 1) W)
      ∗ (bigSep (Finset.univ.erase 0) fun r => rowPts c (up c r) (P c)) ∗ (bigSep (Finset.univ.erase 0) fun r => iprop(∃ f, slotPts (up c r) (-r) f))
      ∗ (bigSep (Finset.univ.erase 0) fun r => iprop(dutyTok ER (sendCell c r) 0 0 ∗ dutyTok ER (recvCell (up c r) (-r)) 0 0)))
      ⊢ Snd P c 1 := by
  unfold Snd Chain
  rw [ahead_one, behind_one, bigSep_empty,
    bigSep_sep' _ (fun r => iprop(rowPts c (up c r) (P c) ∗ ∃ f, slotPts (up c r) (-r) f))
      (fun r => iprop(dutyTok ER (sendCell c r) 0 0 ∗ dutyTok ER (recvCell (up c r) (-r)) 0 0)),
    bigSep_sep' _ (fun r => rowPts c (up c r) (P c)) (fun r => iprop(∃ f, slotPts (up c r) (-r) f))]
  iintro ⟨H1, H2, H3, H4⟩
  isplitl [H1]; · iexact H1
  isplitl
  · isplitl [H2 H3]
    · isplitl [H2] <;> iassumption
    iexact H4
  iempintro
theorem snd_elim (c : Dev nD) :
    Snd P c 32 ⊢ iprop((∃ W, owes (c : Thread nD τ) 0 W) ∗ bigSep (Finset.univ.erase 0) fun r => cred (tallyAt (sendCell c r) () N)) := by
  unfold Snd Chain
  rw [behind_end, OR_end]
  iintro ⟨H1, -, H3⟩
  isplitl [H1] <;> iassumption
/-- The two chains of waits, begun and ended. -/
theorem wait_intro (c : Dev nD) (Φ Ψ : Fin 32 → sProp 𝕄) :
    iprop((∃ W, owes (c : Thread nD τ) 0 W) ∗ bigSep (Finset.univ.erase 0) Φ) ⊢ Chain c (fun _ => 0) Φ Ψ 1 := by
  unfold Chain
  rw [ahead_one, behind_one, bigSep_empty]
  iintro ⟨H1, H2⟩
  isplitl [H1]; · iexact H1
  isplitl [H2]; · iexact H2
  iempintro
theorem wait_elim (c : Dev nD) (Φ Ψ Ψ' : Fin 32 → sProp 𝕄) :
    Chain c (fun _ => 0) Φ (fun r => iprop(Ψ r ∗ Ψ' r)) 32
      ⊢ iprop((∃ W, owes (c : Thread nD τ) 0 W) ∗ bigSep (Finset.univ.erase 0) Ψ ∗ bigSep (Finset.univ.erase 0) Ψ') := by
  unfold Chain
  rw [behind_end, bigSep_sep']
  iintro ⟨H1, -, H3⟩
  isplitl [H1] <;> iassumption
theorem rcv_intro (c : Dev nD) :
    iprop((∃ W, owes (c : Thread nD τ) 0 W)
      ∗ bigSep (Finset.univ.erase 0) fun s => iprop(cred (tallyAt (recvCell c s) () N) ∗ atPos ER (recvCell c s) 0 ∅ 0)) ⊢ Rcv P c 1 :=
  wait_intro c _ _
theorem rcv_elim (c : Dev nD) :
    Rcv P c 32 ⊢ iprop((∃ W, owes (c : Thread nD τ) 0 W) ∗ (bigSep (Finset.univ.erase 0) fun s => slotPts c s (gath P c))
      ∗ bigSep (Finset.univ.erase 0) fun s => semVal (recvCell c s) 0) :=
  wait_elim c _ _ _
theorem out_intro (c : Dev nD) :
    iprop((∃ W, owes (c : Thread nD τ) 0 W) ∗ (bigSep (Finset.univ.erase 0) fun r => cred (tallyAt (sendCell c r) () N))
      ∗ bigSep (Finset.univ.erase 0) fun r => atPos ER (sendCell c r) 0 ∅ 0) ⊢ Out P c 1 := by
  rw [← bigSep_sep']
  exact wait_intro c _ _
theorem out_elim (c : Dev nD) :
    Out P c 32 ⊢ iprop((∃ W, owes (c : Thread nD τ) 0 W) ∗ (bigSep (Finset.univ.erase 0) fun r => rowPts c (up c r) (P c))
      ∗ bigSep (Finset.univ.erase 0) fun r => semVal (sendCell c r) 0) :=
  wait_elim c _ _ _
/-- The result, stored whole into its staging buffer. -/
theorem sum_stored (c : Dev nD) (go w : Vec F S16x512 .f32) (gs : Vec F S32x16x512 .f32)
    (hw : w = k0_pay15 (gM.view.readAt (Elt F) (Rect.unit (s := S32x16x512) ![0, 0, 0] ![32, 16, 512] inb_S32x16x512_S32x16x512_0_0_0).toLoadRect gs)) :
    ((((oM.access (Rect.unit (s := S16x512) ![0, 0] S16x512.size inb_S16x512_S16x512_0_0)).loc (c : Thread nD τ)) ↦{fullShare}
        ((oM.access (Rect.unit (s := S16x512) ![0, 0] S16x512.size inb_S16x512_S16x512_0_0)).write (Elt F) go w Finset.univ)) : sProp 𝕄)
      ⊢ (((c : Thread nD τ).loc cc0_stg4_0) ↦{fullShare} k0_pay15 gs) := by
  subst hw
  refine Entails.of_eq (congrArg (fun w => (((c : Thread nD τ).loc cc0_stg4_0 ↦{fullShare} w) : sProp 𝕄))
    ((Memref.write_access_unit_zero_univ (Elt F) cc0_stg4_0 hz2 inb_S16x512_S16x512_0_0 go _).trans ?_))
  exact congrArg k0_pay15 (Memref.readAt_unit_zero (Elt F) cc0_scratch1 hz3 inb_S32x16x512_S32x16x512_0_0_0 gs)

set_option maxHeartbeats 2000000 in
/-- The body, from its first signal to its last wait. -/
theorem sound_body (c : Dev nD) (gx : Vec F S512x256 .f32) (gr : Vec F S256x128 .f32) (gi : Vec F S512x2 .i32) (gw : Vec F S4x256x512 .f32)
    (go : Vec F S16x512 .f32) (gp : Vec F S512x512 .f32) (gg : Vec F S32x16x512 .f32) (hP : P c = partialOf c gx gr gi gw) (Kt : PUnit → sProp 𝕄) :
    iprop(records P K ∗ Sig c 1 ∗ levAts L lv ∗ cred (tallyAt (barCell c) () 31) ∗ atPos ER (barCell c) 0 ∅ 0
        ∗ bodyRest P c gx gr gi gw go gp gg Kt)
      ⊢ wp frame (wpE (defs₀ (F := F)) 𝒱₀ (c : Thread nD τ) none) Set.univ
          (cc0_body xM (Memref.isWhole_whole _) rwM (Memref.isWhole_whole _) idxM (Memref.isWhole_whole _) ewM (Memref.isWhole_whole _)
            oM (Memref.isWhole_whole _) pM (Memref.isWhole_whole _) gM (Memref.isWhole_whole _) cc0_scratch2 cc0_scratch3) Kt := by
  unfold partialOf at hP
  simp only [cc0_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, cc0_body_skel, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel]
  simp only [semSignalWord, semWaitWord, Prog.lift, Prog.bind_op, Prog.bind_ret, Prog.pure_eq_ret, wp_deviceId]
  -- the signals and the wait at the barrier
  refine signal_step c _ 1 (Fin.ext (k0_dev1_eq c)) (h := ?_)
  refine signal_step c _ 2 (Fin.ext (k0_dev2_eq c)) (h := ?_)
  refine signal_step c _ 3 (Fin.ext (k0_dev3_eq c)) (h := ?_)
  refine signal_step c _ 4 (Fin.ext (k0_dev4_eq c)) (h := ?_)
  refine signal_step c _ 5 (Fin.ext (k0_dev5_eq c)) (h := ?_)
  refine signal_step c _ 6 (Fin.ext (k0_dev6_eq c)) (h := ?_)
  refine signal_step c _ 7 (Fin.ext (k0_dev7_eq c)) (h := ?_)
  refine signal_step c _ 8 (Fin.ext (k0_dev8_eq c)) (h := ?_)
  refine signal_step c _ 9 (Fin.ext (k0_dev9_eq c)) (h := ?_)
  refine signal_step c _ 10 (Fin.ext (k0_dev10_eq c)) (h := ?_)
  refine signal_step c _ 11 (Fin.ext (k0_dev11_eq c)) (h := ?_)
  refine signal_step c _ 12 (Fin.ext (k0_dev12_eq c)) (h := ?_)
  refine signal_step c _ 13 (Fin.ext (k0_dev13_eq c)) (h := ?_)
  refine signal_step c _ 14 (Fin.ext (k0_dev14_eq c)) (h := ?_)
  refine signal_step c _ 15 (Fin.ext (k0_dev15_eq c)) (h := ?_)
  refine signal_step c _ 16 (Fin.ext (k0_dev16_eq c)) (h := ?_)
  refine signal_step c _ 17 (Fin.ext (k0_dev17_eq c)) (h := ?_)
  refine signal_step c _ 18 (Fin.ext (k0_dev18_eq c)) (h := ?_)
  refine signal_step c _ 19 (Fin.ext (k0_dev19_eq c)) (h := ?_)
  refine signal_step c _ 20 (Fin.ext (k0_dev20_eq c)) (h := ?_)
  refine signal_step c _ 21 (Fin.ext (k0_dev21_eq c)) (h := ?_)
  refine signal_step c _ 22 (Fin.ext (k0_dev22_eq c)) (h := ?_)
  refine signal_step c _ 23 (Fin.ext (k0_dev23_eq c)) (h := ?_)
  refine signal_step c _ 24 (Fin.ext (k0_dev24_eq c)) (h := ?_)
  refine signal_step c _ 25 (Fin.ext (k0_dev25_eq c)) (h := ?_)
  refine signal_step c _ 26 (Fin.ext (k0_dev26_eq c)) (h := ?_)
  refine signal_step c _ 27 (Fin.ext (k0_dev27_eq c)) (h := ?_)
  refine signal_step c _ 28 (Fin.ext (k0_dev28_eq c)) (h := ?_)
  refine signal_step c _ 29 (Fin.ext (k0_dev29_eq c)) (h := ?_)
  refine signal_step c _ 30 (Fin.ext (k0_dev30_eq c)) (h := ?_)
  refine signal_step c _ 31 (Fin.ext (k0_dev31_eq c)) (h := ?_)
  refine barrier_step c rfl (h := ?_)
  unfold bodyRest bodyStart
  unfold staged
  iintro ⟨#Hrec, ⟨HO, HzB, Hslots⟩, ⟨Htok, Hrcv, HatS⟩, ⟨Hx, Hr, Hi, Hw, Ho⟩, Hp, Hslot0, Hk⟩
  -- the table
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hr; iintro Hr
  iapply (wp_load 𝒱₀ (c : Thread nD τ) none Set.univ (m := idxM) (Finset.subset_univ _)) $$ Hi; iintro Hi
  iapply (wp_load 𝒱₀ (c : Thread nD τ) none Set.univ (m := idxM) (Finset.subset_univ _)) $$ Hi; iintro Hi
  iapply (wp_load 𝒱₀ (c : Thread nD τ) none Set.univ (m := ewM) (Finset.subset_univ _)) $$ Hw; iintro Hw
  iapply (wp_load 𝒱₀ (c : Thread nD τ) none Set.univ (m := ewM) (Finset.subset_univ _)) $$ Hw; iintro Hw
  iapply (wp_load 𝒱₀ (c : Thread nD τ) none Set.univ (m := ewM) (Finset.subset_univ _)) $$ Hw; iintro Hw
  iapply (wp_load 𝒱₀ (c : Thread nD τ) none Set.univ (m := ewM) (Finset.subset_univ _)) $$ Hw; iintro Hw
  iapply (wp_load 𝒱₀ (c : Thread nD τ) none Set.univ (m := pM) (Finset.subset_univ _)) $$ Hp; iintro Hp
  iapply (wp_store 𝒱₀ (c : Thread nD τ) none Set.univ (m := pM) (r := Rect.unit (s := S512x512) ![0, 0] S512x512.size inb_S512x512_S512x512_0_0)
    (Mk := Finset.univ) (Finset.subset_univ _)) $$ Hp; iintro Hp
  ihave Hp := (table_rows (P := P) c gp hP) $$ Hp
  icases Hp with ⟨Hrow0, Hrows⟩
  -- the copies
  ihave HS := (snd_intro (P := P) c) $$ [HO Hrows Hslots Htok]
  · isplitl [HO]; · iexact HO
    isplitl [Hrows]; · iexact Hrows
    isplitl [Hslots] <;> iassumption
  ihave HX := (BIBase.Entails.rfl (P := iprop(records P K ∗ Snd P c 1))) $$ [HS]
  · isplitr; · iexact Hrec
    iexact HS
  iclear Hrec
  istop
  refine refocus ?_
  refine send_step c _ 1 31 (Fin.ext (k0_dev32_eq c)) (off_eq c 0) (h := ?_)
  refine send_step c _ 2 30 (Fin.ext (k0_dev33_eq c)) (off_eq c 1) (h := ?_)
  refine send_step c _ 3 29 (Fin.ext (k0_dev34_eq c)) (off_eq c 2) (h := ?_)
  refine send_step c _ 4 28 (Fin.ext (k0_dev35_eq c)) (off_eq c 3) (h := ?_)
  refine send_step c _ 5 27 (Fin.ext (k0_dev36_eq c)) (off_eq c 4) (h := ?_)
  refine send_step c _ 6 26 (Fin.ext (k0_dev37_eq c)) (off_eq c 5) (h := ?_)
  refine send_step c _ 7 25 (Fin.ext (k0_dev38_eq c)) (off_eq c 6) (h := ?_)
  refine send_step c _ 8 24 (Fin.ext (k0_dev39_eq c)) (off_eq c 7) (h := ?_)
  refine send_step c _ 9 23 (Fin.ext (k0_dev40_eq c)) (off_eq c 8) (h := ?_)
  refine send_step c _ 10 22 (Fin.ext (k0_dev41_eq c)) (off_eq c 9) (h := ?_)
  refine send_step c _ 11 21 (Fin.ext (k0_dev42_eq c)) (off_eq c 10) (h := ?_)
  refine send_step c _ 12 20 (Fin.ext (k0_dev43_eq c)) (off_eq c 11) (h := ?_)
  refine send_step c _ 13 19 (Fin.ext (k0_dev44_eq c)) (off_eq c 12) (h := ?_)
  refine send_step c _ 14 18 (Fin.ext (k0_dev45_eq c)) (off_eq c 13) (h := ?_)
  refine send_step c _ 15 17 (Fin.ext (k0_dev46_eq c)) (off_eq c 14) (h := ?_)
  refine send_step c _ 16 16 (Fin.ext (k0_dev47_eq c)) (off_eq c 15) (h := ?_)
  refine send_step c _ 17 15 (Fin.ext (k0_dev48_eq c)) (off_eq c 16) (h := ?_)
  refine send_step c _ 18 14 (Fin.ext (k0_dev49_eq c)) (off_eq c 17) (h := ?_)
  refine send_step c _ 19 13 (Fin.ext (k0_dev50_eq c)) (off_eq c 18) (h := ?_)
  refine send_step c _ 20 12 (Fin.ext (k0_dev51_eq c)) (off_eq c 19) (h := ?_)
  refine send_step c _ 21 11 (Fin.ext (k0_dev52_eq c)) (off_eq c 20) (h := ?_)
  refine send_step c _ 22 10 (Fin.ext (k0_dev53_eq c)) (off_eq c 21) (h := ?_)
  refine send_step c _ 23 9 (Fin.ext (k0_dev54_eq c)) (off_eq c 22) (h := ?_)
  refine send_step c _ 24 8 (Fin.ext (k0_dev55_eq c)) (off_eq c 23) (h := ?_)
  refine send_step c _ 25 7 (Fin.ext (k0_dev56_eq c)) (off_eq c 24) (h := ?_)
  refine send_step c _ 26 6 (Fin.ext (k0_dev57_eq c)) (off_eq c 25) (h := ?_)
  refine send_step c _ 27 5 (Fin.ext (k0_dev58_eq c)) (off_eq c 26) (h := ?_)
  refine send_step c _ 28 4 (Fin.ext (k0_dev59_eq c)) (off_eq c 27) (h := ?_)
  refine send_step c _ 29 3 (Fin.ext (k0_dev60_eq c)) (off_eq c 28) (h := ?_)
  refine send_step c _ 30 2 (Fin.ext (k0_dev61_eq c)) (off_eq c 29) (h := ?_)
  refine send_step c _ 31 1 (Fin.ext (k0_dev62_eq c)) (off_eq c 30) (h := ?_)
  -- the device's own rows
  change iprop(records P K ∗ Snd P c 32 ∗ _) ⊢ _
  iintro ⟨#Hrec, HS, ⟨⟨⟨⟨⟨⟨⟨⟨⟨⟨HzB, Hrcv⟩, HatS⟩, Ho⟩, Hslot0⟩, Hk⟩, Hx⟩, Hr⟩, Hi⟩, Hw⟩, Hrow0⟩⟩
  ihave HS := (snd_elim (P := P) c) $$ HS
  icases HS with ⟨HO, HcS⟩
  ihave Hrow0 := (Entails.of_eq (rowPts_eq c (up c 0) (P c))) $$ Hrow0
  iapply (wp_load 𝒱₀ (c : Thread nD τ) none Set.univ (m := pM) (S := (rowM (up c 0)).view.set) (own_rows c (k0_off2_eq c) _)) $$ Hrow0
  iintro Hrow0
  ihave Hrow0 := (Entails.of_eq (rowPts_eq c (up c 0) (P c)).symm) $$ Hrow0
  ihave Hslot0 := (Entails.of_eq (slotPts_eq c 0 gg)) $$ Hslot0
  iapply (wp_load 𝒱₀ (c : Thread nD τ) none Set.univ (m := gM) (S := (slotM 0).view.set) (own_slot_load _)) $$ Hslot0; iintro Hslot0
  iapply (wp_store 𝒱₀ (c : Thread nD τ) none Set.univ (m := gM) (r := Rect.unit (s := S32x16x512) ![0, 0, 0] S1x16x512.size inb_S32x16x512_S1x16x512_0_0_0)
    (S := (slotM 0).view.set) (Mk := Finset.univ) (own_slot_store _)) $$ Hslot0; iintro Hslot0
  ihave Hslot0 := (own_slot_rows c gg inb_S32x16x512_S1x16x512_0_0_0) $$ Hslot0
  -- the waits for the rows of the others
  ihave HX := (rcv_intro (P := P) c) $$ [HO Hrcv]
  · isplitl [HO]; · iexact HO
    iexact Hrcv
  ihave HX := (BIBase.Entails.rfl (P := iprop(records P K ∗ Rcv P c 1))) $$ [HX]
  · isplitr; · iexact Hrec
    iexact HX
  iclear Hrec
  istop
  refine refocus ?_
  refine recv_step c 1 (h := ?_)
  refine recv_step c 2 (h := ?_)
  refine recv_step c 3 (h := ?_)
  refine recv_step c 4 (h := ?_)
  refine recv_step c 5 (h := ?_)
  refine recv_step c 6 (h := ?_)
  refine recv_step c 7 (h := ?_)
  refine recv_step c 8 (h := ?_)
  refine recv_step c 9 (h := ?_)
  refine recv_step c 10 (h := ?_)
  refine recv_step c 11 (h := ?_)
  refine recv_step c 12 (h := ?_)
  refine recv_step c 13 (h := ?_)
  refine recv_step c 14 (h := ?_)
  refine recv_step c 15 (h := ?_)
  refine recv_step c 16 (h := ?_)
  refine recv_step c 17 (h := ?_)
  refine recv_step c 18 (h := ?_)
  refine recv_step c 19 (h := ?_)
  refine recv_step c 20 (h := ?_)
  refine recv_step c 21 (h := ?_)
  refine recv_step c 22 (h := ?_)
  refine recv_step c 23 (h := ?_)
  refine recv_step c 24 (h := ?_)
  refine recv_step c 25 (h := ?_)
  refine recv_step c 26 (h := ?_)
  refine recv_step c 27 (h := ?_)
  refine recv_step c 28 (h := ?_)
  refine recv_step c 29 (h := ?_)
  refine recv_step c 30 (h := ?_)
  refine recv_step c 31 (h := ?_)
  -- the sum of the slots
  change iprop(records P K ∗ Rcv P c 32 ∗ _) ⊢ _
  iintro ⟨#Hrec, HX, ⟨⟨⟨⟨⟨⟨⟨⟨⟨⟨HzB, HatS⟩, Ho⟩, Hk⟩, Hx⟩, Hr⟩, Hi⟩, Hw⟩, HcS⟩, Hrow0⟩, Hslot0⟩⟩
  ihave HX := (rcv_elim (P := P) c) $$ HX
  icases HX with ⟨HO, Hslots, HzR⟩
  ihave Hg := (Entails.of_eq (slots_split c (gath P c)).symm) $$ [Hslot0 Hslots]
  · isplitl [Hslot0] <;> iassumption
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := Rect.unit (s := S16x512) ![0, 0] S16x512.size inb_S16x512_S16x512_0_0)
    (Mk := Finset.univ) (Finset.subset_univ _)) $$ Ho; iintro Ho
  ihave Ho := (sum_stored c go _ (gath P c) rfl) $$ Ho
  -- the waits for the copies out
  ihave HX := (out_intro (P := P) c) $$ [HO HcS HatS]
  · isplitl [HO]; · iexact HO
    isplitl [HcS] <;> iassumption
  ihave HX := (BIBase.Entails.rfl (P := iprop(records P K ∗ Out P c 1))) $$ [HX]
  · isplitr; · iexact Hrec
    iexact HX
  iclear Hrec
  istop
  refine refocus ?_
  refine out_step c 1 (h := ?_)
  refine out_step c 2 (h := ?_)
  refine out_step c 3 (h := ?_)
  refine out_step c 4 (h := ?_)
  refine out_step c 5 (h := ?_)
  refine out_step c 6 (h := ?_)
  refine out_step c 7 (h := ?_)
  refine out_step c 8 (h := ?_)
  refine out_step c 9 (h := ?_)
  refine out_step c 10 (h := ?_)
  refine out_step c 11 (h := ?_)
  refine out_step c 12 (h := ?_)
  refine out_step c 13 (h := ?_)
  refine out_step c 14 (h := ?_)
  refine out_step c 15 (h := ?_)
  refine out_step c 16 (h := ?_)
  refine out_step c 17 (h := ?_)
  refine out_step c 18 (h := ?_)
  refine out_step c 19 (h := ?_)
  refine out_step c 20 (h := ?_)
  refine out_step c 21 (h := ?_)
  refine out_step c 22 (h := ?_)
  refine out_step c 23 (h := ?_)
  refine out_step c 24 (h := ?_)
  refine out_step c 25 (h := ?_)
  refine out_step c 26 (h := ?_)
  refine out_step c 27 (h := ?_)
  refine out_step c 28 (h := ?_)
  refine out_step c 29 (h := ?_)
  refine out_step c 30 (h := ?_)
  refine out_step c 31 (h := ?_)
  change iprop(records P K ∗ Out P c 32 ∗ _) ⊢ _
  iintro ⟨-, HX, ⟨⟨⟨⟨⟨⟨⟨⟨⟨HzB, Hk⟩, Hx⟩, Hr⟩, Hi⟩, Hw⟩, Hrow0⟩, HzR⟩, Hg⟩, Ho⟩⟩
  ihave HX := (out_elim (P := P) c) $$ HX
  icases HX with ⟨HO, Hrows, HzS⟩
  ihave Hp := (Entails.of_eq (rows_split c (P c)).symm) $$ [Hrow0 Hrows]
  · isplitl [Hrow0] <;> iassumption
  rw [wp_ret]
  imodintro
  iapply Hk
  unfold bodyEnd
  isplitr [Hx Hr Hi Hw Ho]
  · isplitl [HO]; · iexact HO
    isplitl [HzB]; · iexact HzB
    isplitl [HzR]; · iexact HzR
    isplitl [HzS]; · iexact HzS
    isplitl [Hp]; · iexact Hp
    iexact Hg
  isplitl [Hx]; · iexact Hx
  isplitl [Hr]; · iexact Hr
  isplitl [Hi]; · iexact Hi
  isplitl [Hw]; · iexact Hw
  iexact Ho

end Cert.KernelIdealRun
end
-- ==== Proof.Funds.lean ====
/-
# What the launch deals each device

The launch mints, for every device, the round states of its sixty-five cells, its positions in them and the tokens of
the duties they carry. The tokens are then dealt to the devices that pay: the token of duty `d` of `c`'s barrier goes to
`c - d`, that of `c`'s receive cell `s` to `c + s`. The credits each device waits with are the sums of what the others
owe its cells.
-/
module

public import proofs.«01_k».proof.Proof.Steps

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Partials F)

/-! ## Conjunctions over a device's cells -/

theorem bigSep_cix (Φ : Cix → sProp 𝕄) :
    bigSep Finset.univ Φ = iprop(Φ none ∗ (bigSep Finset.univ fun r : Fin 32 => Φ (some (false, r))) ∗ bigSep Finset.univ fun s : Fin 32 => Φ (some (true, s))) := by
  have he : (Finset.univ.erase none : Finset Cix) = Finset.univ.map ⟨some, Option.some_injective (Bool × Fin 32)⟩ := by decide
  rw [bigSep_univ_at _ none, he, BI.bigSep_map, BI.bigSep_univ_prod, bigSep_univ_eq_bigSepL [false, true] (by decide) (by decide)]
  rfl

/-! ## The tokens -/

/-- A token is minted for every entry of every kind of cell: a duty of the barrier, a send cell, a receive cell. -/
abbrev tokOf (x : Dev nD × Fin 3 × Fin 32) : GSem nD τ sig × ℕ × Fin 32 := match x.2.1 with
  | 0 => (barCell x.1, 0, x.2.2) | 1 => (sendCell x.1 x.2.2, 0, 0) | 2 => (recvCell x.1 x.2.2, 0, 0)
theorem tokOf_injective : Function.Injective tokOf := by
  rintro ⟨c, j, d⟩ ⟨c', j', d'⟩ h
  have h1 : c = c' := by
    have := congrArg (fun x : GSem nD τ sig × ℕ × Fin 32 => x.1.1.1) h
    fin_cases j <;> fin_cases j' <;> exact this
  subst h1
  have hs : ∀ k k' : Cix, (kcell (c, k) : GSem nD τ sig) = kcell (c, k') → k = k' := fun k k' e => congrArg Prod.snd (kcell_injective e)
  have h2 := congrArg (fun x : GSem nD τ sig × ℕ × Fin 32 => x.1) h
  have h3 := congrArg (fun x : GSem nD τ sig × ℕ × Fin 32 => x.2.2) h
  fin_cases j <;> fin_cases j'
  · exact congrArg _ (congrArg _ h3)
  · exact absurd (hs none (some (false, d')) h2) (by simp)
  · exact absurd (hs none (some (true, d')) h2) (by simp)
  · exact absurd (hs (some (false, d)) none h2) (by simp)
  · have := hs (some (false, d)) (some (false, d')) h2
    simp only [Option.some.injEq, Prod.mk.injEq, true_and] at this
    rw [this]
  · exact absurd (hs (some (false, d)) (some (true, d')) h2) (by simp)
  · exact absurd (hs (some (true, d)) none h2) (by simp)
  · exact absurd (hs (some (true, d)) (some (false, d')) h2) (by simp)
  · have := hs (some (true, d)) (some (true, d')) h2
    simp only [Option.some.injEq, Prod.mk.injEq, true_and] at this
    rw [this]

def allCells : Finset (GSem nD τ sig) := Finset.univ.map ⟨kcell, kcell_injective⟩
def allToks : Finset (GSem nD τ sig × ℕ × Fin 32) := Finset.univ.map ⟨tokOf, tokOf_injective⟩

def u₀ : UU := (initOf (Pipeline.cells cfgs cellOf_inj) (Pipeline.launchToks cfgs cellOf_inj), initOf allCells allToks)

/-- The tokens of the duties of all cells, and the same tokens as the devices that pay them hold them. -/
def barToks (c : Dev nD) : sProp 𝕄 := bigSep Finset.univ fun d : Fin 32 => dutyTok ER (barCell c) 0 d
def sendToks (c : Dev nD) : sProp 𝕄 := bigSep Finset.univ fun r : Fin 32 => dutyTok ER (sendCell c r) 0 0
def recvToks (c : Dev nD) : sProp 𝕄 := bigSep Finset.univ fun s : Fin 32 => dutyTok ER (recvCell c s) 0 0
def payToks (c : Dev nD) : sProp 𝕄 :=
  iprop((bigSep Finset.univ fun r : Fin 32 => dutyTok ER (barCell (up c r)) 0 r) ∗ sendToks c
    ∗ bigSep Finset.univ fun r : Fin 32 => dutyTok ER (recvCell (up c r) (-r)) 0 0)

/-- What the launch deals device `c`. -/
def G (c : Dev nD) : sProp 𝕄 :=
  iprop((bigSep Finset.univ fun k : Cix => roundState ER (rd P) (kcell (c, k)) 0)
    ∗ (bigSep Finset.univ fun k : Cix => iprop(atPos ER (kcell (c, k)) 0 ∅ 0 ∗ reached ER (kcell (c, k)) 0))
    ∗ barToks c ∗ sendToks c ∗ recvToks c)
/-- What a device starts from: the records, its positions, the tokens it pays with. -/
def linear (c : Dev nD) : sProp 𝕄 := iprop((bigSep Finset.univ fun k : Cix => atPos ER (kcell (c, k)) 0 ∅ 0) ∗ payToks c)
def G' (c : Dev nD) : sProp 𝕄 := iprop(∃ K, records P K ∗ linear c)

theorem fund_all : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k : Cix => Φ (kcell (c, k)) := by
    unfold allCells; rw [BI.bigSep_map, BI.bigSep_univ_prod]; rfl
  have hT : bigSep allToks (fun x => (dutyTok ER x.1 x.2.1 x.2.2 : sProp 𝕄))
      = bigSep Finset.univ fun c : Dev nD => iprop(barToks c ∗ sendToks c ∗ recvToks c) := by
    unfold allToks; rw [BI.bigSep_map, BI.bigSep_univ_prod]
    refine BI.bigSep_congr fun c _ => ?_
    rw [BI.bigSep_univ_prod, bigSep_univ_eq_bigSepL [0, 1, 2] (by decide) (by decide)]
    rfl
  iintro HX
  imod (Rounds.fund ER (rd P) allCells allToks) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep' Finset.univ (fun c : Dev nD => bigSep Finset.univ fun k : Cix => roundState ER (rd P) (kcell (c, k)) 0),
    bigSep_sep' Finset.univ (fun c : Dev nD => bigSep Finset.univ fun k : Cix => iprop(atPos ER (kcell (c, k)) 0 ∅ 0 ∗ reached ER (kcell (c, k)) 0))]
  isplitl [Hst']; · iexact Hst'
  isplitl [Hat' Hr']
  · simp only [bigSep_sep']
    isplitl [Hat'] <;> iassumption
  iexact Htok'

/-- The duty paid `r` steps up is the duty `r` of the cell `r` steps down. -/
def barAround : Dev nD × Fin 32 ≃ Dev nD × Fin 32 where
  toFun x := (up x.1 x.2, x.2)
  invFun x := (down x.1 x.2, x.2)
  left_inv x := Prod.ext (down_up x.1 x.2) rfl
  right_inv x := Prod.ext (up_down x.1 x.2) rfl
def recvAround : Dev nD × Fin 32 ≃ Dev nD × Fin 32 where
  toFun x := (up x.1 x.2, -x.2)
  invFun x := (up x.1 x.2, -x.2)
  left_inv x := Prod.ext ((up_neg (up x.1 x.2) x.2).trans (down_up x.1 x.2)) (neg_neg x.2)
  right_inv x := Prod.ext ((up_neg (up x.1 x.2) x.2).trans (down_up x.1 x.2)) (neg_neg x.2)

/-- The tokens dealt to the devices that pay. -/
theorem toks_around :
    (bigSep Finset.univ fun c : Dev nD => (iprop(barToks c ∗ sendToks c ∗ recvToks c) : sProp 𝕄)) ⊢ bigSep Finset.univ fun c : Dev nD => payToks c := by
  have hB : (bigSep Finset.univ fun c : Dev nD => (barToks c : sProp 𝕄))
      = bigSep Finset.univ fun c : Dev nD => bigSep Finset.univ fun r : Fin 32 => dutyTok ER (barCell (up c r)) 0 r := by
    unfold barToks
    rw [← BI.bigSep_univ_prod (fun x : Dev nD × Fin 32 => (dutyTok ER (barCell x.1) 0 x.2 : sProp 𝕄)), BI.bigSep_univ_equiv barAround, BI.bigSep_univ_prod]
    rfl
  have hR : (bigSep Finset.univ fun c : Dev nD => (recvToks c : sProp 𝕄))
      = bigSep Finset.univ fun c : Dev nD => bigSep Finset.univ fun r : Fin 32 => dutyTok ER (recvCell (up c r) (-r)) 0 0 := by
    unfold recvToks
    rw [← BI.bigSep_univ_prod (fun x : Dev nD × Fin 32 => (dutyTok ER (recvCell x.1 x.2) 0 0 : sProp 𝕄)), BI.bigSep_univ_equiv recvAround, BI.bigSep_univ_prod]
    rfl
  unfold payToks
  simp only [bigSep_sep']
  rw [hB, hR]

/-! ## The cells' invariants, allocated -/

/-- The kernel's own semaphores: its send and receive semaphores. -/
abbrev osem (k : Bool × Fin 32) : SemLoc sig := csem (some k)
theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl
/-- The kernel's own semaphores and the barrier at zero are all its cells at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Cix => semVal (kcell (c, k)) 0 : sProp 𝕄) := by
  rw [unscopedSems0_eq, bigSep_cix]
  unfold Pipeline.ownSems0
  rw [BI.bigSep_univ_prod, bigSep_univ_eq_bigSepL [false, true] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ barToks c ∗ sendToks c ∗ recvToks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Cix => semVal (kcell (c, k)) 0) ∗ bigSep Finset.univ fun k : Cix => roundState ER (rd P) (kcell (c, k)) 0)
      ⊢ (|={Set.univ}=> bigSep Finset.univ fun k => iprop(∃ κ : ℕ, cellInv ER (rd P) κ (kcell (c, k))) : sProp 𝕄) from by
        rw [← bigSep_sep']
        exact (BI.bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A persistent fact beside every term of a conjunction. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact BI.bigSep_mono h)

theorem regroup :
    (bigSep Finset.univ fun c : Dev nD => iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ barToks c ∗ sendToks c ∗ recvToks c) : sProp 𝕄)
      ⊢ bigSep Finset.univ (G' P) := by
  rw [bigSep_sep', bigSep_sep' Finset.univ (fun c : Dev nD => bigSep Finset.univ fun k : Cix => (iprop(atPos ER (kcell (c, k)) 0 ∅ 0 ∗ reached ER (kcell (c, k)) 0) : sProp 𝕄)),
    ← BI.bigSep_univ_prod (fun ck : Dev nD × Cix => iprop(∃ κ : ℕ, cellInv ER (rd P) κ (kcell ck))),
    BI.bigSep_congr (s := Finset.univ) (fun (c : Dev nD) _ => bigSep_sep' Finset.univ (fun k : Cix => (atPos ER (kcell (c, k)) 0 ∅ 0 : sProp 𝕄)) (fun k => reached ER (kcell (c, k)) 0)),
    bigSep_sep' Finset.univ (fun c : Dev nD => bigSep Finset.univ fun k : Cix => (atPos ER (kcell (c, k)) 0 ∅ 0 : sProp 𝕄)),
    ← BI.bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (rd P) κ (kcell ck) : sProp 𝕄))) $$ HI
  icases HK with ⟨%K, #HI⟩
  ihave Htk := (toks_around (F := F)) $$ Htok
  iapply (bigSep_beside (R := records P K) (Φ := fun c => linear c) fun c _ => show iprop(records P K ∗ linear c) ⊢ G' P c from by
    unfold G'; iintro H; iexists K; iexact H)
  isplitr
  · unfold records; isplitl; · iexact HI
    iexact HR
  · unfold linear
    rw [bigSep_sep']
    isplitl [Hat]; · iexact Hat
    iexact Htk

/-- All devices' semaphores and deals, turned into what each starts from. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((BI.bigSep_mono fun c _ => core_alloc P c).trans (bigSep_fupd _ _)).trans (BI.fupd_mono (regroup P))

/-! ## The credits -/

theorem bar_ne_recv (c c' : Dev nD) (s : Fin 32) : barCell c ≠ recvCell c' s :=
  fun h => absurd (congrArg Prod.snd (kcell_injective (a₁ := (c, none)) (a₂ := (c', some (true, s))) h)) (by simp)

theorem OB_at (d c : Dev nD) : OB d 1 (barCell c) () = ∑ r ∈ Finset.univ.erase (0 : Fin 32), if down c r = d then 1 else 0 := by
  unfold OB
  rw [ahead_one, Finset.sum_apply, Finsupp.finset_sum_apply]
  refine Finset.sum_congr rfl fun r _ => ?_
  rw [tallyAt_apply]
  refine if_congr ⟨fun h => ?_, fun h => ?_⟩ rfl rfl
  · have : c = up d r := congrArg Prod.fst (kcell_injective (a₁ := (c, none)) (a₂ := (up d r, none)) h.1)
    rw [this, down_up]
  · exact ⟨by rw [← h, up_down], rfl⟩
theorem OB_recv (d c : Dev nD) (s : Fin 32) : OB d 1 (recvCell c s) () = 0 := by
  by_contra h
  obtain ⟨r, -, e⟩ := OB_pos (Nat.pos_of_ne_zero h)
  exact bar_ne_recv _ _ _ e.symm
theorem OR_at (d c : Dev nD) (s : Fin 32) (hs : s ≠ 0) : OR d 1 (recvCell c s) () = if up c s = d then N else 0 := by
  unfold OR
  rw [ahead_one, Finset.sum_apply, Finsupp.finset_sum_apply]
  have h1 : ∀ r : Fin 32, (recvCell c s = recvCell (up d r) (-r) ∧ () = ()) ↔ (r = -s ∧ up c s = d) := fun r => by
    constructor
    · intro h
      have e := kcell_injective (a₁ := (c, some (true, s))) (a₂ := (up d r, some (true, -r))) h.1
      have e1 : c = up d r := congrArg Prod.fst e
      have e2 : s = -r := by
        have := congrArg Prod.snd e
        simpa only [Option.some.injEq, Prod.mk.injEq, true_and] using this
      exact ⟨by rw [e2, neg_neg], by rw [e1, e2, up_neg, down_up]⟩
    · rintro ⟨rfl, rfl⟩
      exact ⟨by rw [neg_neg, up_neg, down_up], rfl⟩
  rw [Finset.sum_eq_single (-s)]
  · rw [tallyAt_apply]; exact if_congr ((h1 (-s)).trans ⟨fun h => h.2, fun h => ⟨rfl, h⟩⟩) rfl rfl
  · intro r _ hr
    rw [tallyAt_apply]; exact if_neg fun h => hr ((h1 r).mp h).1
  · intro h
    exact absurd (Finset.mem_erase.mpr ⟨neg_ne_zero.mpr hs, Finset.mem_univ _⟩) h
theorem OR_bar (d c : Dev nD) : OR d 1 (barCell c) () = 0 := by
  by_contra h
  obtain ⟨r, -, e⟩ := OR_pos (Nat.pos_of_ne_zero h)
  exact bar_ne_recv _ _ _ e

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h : ∀ d : Dev nD, O₀ d (barCell c) () = ∑ r ∈ Finset.univ.erase (0 : Fin 32), if down c r = d then 1 else 0 := fun d => by
    unfold O₀; rw [Pi.add_apply, Finsupp.add_apply, OR_bar, zero_add, OB_at]
  rw [Finset.sum_congr rfl fun d _ => h d, Finset.sum_comm]
  simp only [Finset.sum_ite_eq, Finset.mem_univ, if_true, Finset.sum_const]
  rfl
theorem launch_recv (c : Dev nD) (s : Fin 32) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  have h : ∀ d : Dev nD, O₀ d (recvCell c s) () = if up c s = d then N else 0 := fun d => by
    unfold O₀; rw [Pi.add_apply, Finsupp.add_apply, OB_recv, add_zero, OR_at d c s hs]
  rw [Finset.sum_congr rfl fun d _ => h d, Finset.sum_ite_eq, if_pos (Finset.mem_univ _)]

/-- The launch's credit holds what device `c` waits with. -/
theorem creds (c : Dev nD) :
    (Pipeline.launchCred O₀ c : sProp 𝕄)
      ⊢ iprop(cred (tallyAt (barCell c) () 31) ∗ bigSep (Finset.univ.erase 0) fun s : Fin 32 => cred (tallyAt (recvCell c s) () N)) := by
  unfold Pipeline.launchCred
  refine (BI.bigSep_subset (Finset.subset_univ (Finset.univ.map ⟨csem, csem_injective⟩))).trans ?_
  rw [BI.bigSep_map]
  refine (Entails.of_eq (bigSep_cix _)).trans ?_
  iintro ⟨HB, -, HR⟩
  isplitl [HB]
  · iapply (Entails.of_eq (congrArg cred (launch_bar c))); iexact HB
  · iapply (show (bigSep Finset.univ fun s : Fin 32 => (cred (tallyOn (recvCell c s) (launchCredit (Pipeline.owing O₀) 0 (recvCell c s))) : sProp 𝕄))
      ⊢ bigSep (Finset.univ.erase 0) fun s : Fin 32 => cred (tallyAt (recvCell c s) () N) from
        (BI.bigSep_subset (Finset.erase_subset _ _)).trans (BI.bigSep_mono fun s hs => Entails.of_eq (congrArg cred (launch_recv c s (Finset.ne_of_mem_erase hs)))))
    iexact HR

end Cert.KernelIdealRun
end
-- ==== Proof.Run.lean ====
/-
# The run of the whole program

Every device enters the kernel with its inputs staged, runs the body and leaves with every semaphore at zero. `run_main` says
so of all thirty-two devices together, for any float values: the arguments are unchanged, the result of device `c` is
`outAt m c`, and every semaphore counter is zero.
-/
module

public import proofs.«01_k».proof.Proof.Body
public import proofs.«01_k».proof.Proof.Funds
public import proofs.«01_k».proof.Proof.Gen.KernelIdeal.Frame
public import Idealize.ShloMosaic.Lib.Pipeline.CollectiveSegs
public import Idealize.ShloMosaic.Lib.Quiescent
public import Idealize.ShloMosaic.Lib.Pipeline.ValueKit

@[expose] public section

set_option maxRecDepth 16384

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is staged -/

/-- Device `c`'s four inputs, as the kernel finds them in its own memory. -/
def xIn (c : Dev nD) : Vec F S512x256 .f32 := iblk m c 0 t0_0
def rwIn (c : Dev nD) : Vec F S256x128 .f32 := iblk m c 1 t0_0
def idxIn (c : Dev nD) : Vec F S512x2 .i32 := iblk m c 2 t0_0
def ewIn (c : Dev nD) : Vec F S4x256x512 .f32 := iblk m c 3 t0_0

/-- The table every device stores into `partial`, and the result of device `c`. -/
def part : Partials F := fun c => partialOf c (xIn m c) (rwIn m c) (idxIn m c) (ewIn m c)
def outAt (c : Dev nD) : Vec F S16x512 .f32 := k0_pay15 (gath (part m) c)

/-! ## The pipeline's proof data -/

/-- What a device starts from: the records, positions and tokens, its credits, the levels. -/
def start (c : Dev nD) : sProp 𝕄 :=
  iprop(G' (part m) c ∗ (cred (tallyAt (barCell c) () 31) ∗ bigSep (Finset.univ.erase 0) fun s : Fin 32 => cred (tallyAt (recvCell c s) () N)) ∗ levAts L lv)
/-- The two scratch buffers, whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m c ∗ scratch c)
/-- After the body: the scratch buffers again, and every cell of the device at zero. -/
def Φ₁ (c : Dev nD) : sProp 𝕄 := iprop(scratch c ∗ bigSep Finset.univ fun k : Cix => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => rwIn m c
    | ⟨2, _⟩ => idxIn m c
    | ⟨3, _⟩ => ewIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- Buffer `b` of device `c` held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 (xIn m c) ∗ stg c cc0_stg1_0 (rwIn m c) ∗ stg c cc0_stg2_0 (idxIn m c) ∗ stg c cc0_stg3_0 (ewIn m c)
    ∗ stg c cc0_stg4_0 (outAt m c))

/-! ## From what a device starts with to what the body takes, and back -/

theorem start_parts (c : Dev nD) :
    iprop(linear c ∗ bigSep (Finset.univ.erase 0) fun s : Fin 32 => (cred (tallyAt (recvCell c s) () N) : sProp 𝕄))
      ⊢ iprop(atPos ER (barCell c) 0 ∅ 0 ∗ atPos ER (sendCell c 0) 0 ∅ 0 ∗ atPos ER (recvCell c 0) 0 ∅ 0
          ∗ (bigSep (Finset.univ.erase 0) fun r : Fin 32 => dutyTok ER (barCell (up c r)) 0 r) ∗ bodyStart c) := by
  unfold linear payToks sendToks bodyStart
  rw [bigSep_cix, bigSep_univ_at (fun r : Fin 32 => (atPos ER (kcell (c, some (false, r))) 0 ∅ 0 : sProp 𝕄)) 0,
    bigSep_univ_at (fun s : Fin 32 => (atPos ER (kcell (c, some (true, s))) 0 ∅ 0 : sProp 𝕄)) 0,
    bigSep_univ_at (fun r : Fin 32 => (dutyTok ER (barCell (up c r)) 0 r : sProp 𝕄)) 0,
    bigSep_univ_at (fun r : Fin 32 => (dutyTok ER (sendCell c r) 0 0 : sProp 𝕄)) 0,
    bigSep_univ_at (fun r : Fin 32 => (dutyTok ER (recvCell (up c r) (-r)) 0 0 : sProp 𝕄)) 0,
    bigSep_sep' (Finset.univ.erase 0) (fun r : Fin 32 => (dutyTok ER (sendCell c r) 0 0 : sProp 𝕄)),
    bigSep_sep' (Finset.univ.erase 0) (fun s : Fin 32 => (cred (tallyAt (recvCell c s) () N) : sProp 𝕄))]
  iintro ⟨⟨⟨HaB, ⟨HaS0, HaS⟩, HaR0, HaR⟩, ⟨-, HtB⟩, ⟨-, HtS⟩, -, HtR⟩, Hcr⟩
  isplitl [HaB]; · iexact HaB
  isplitl [HaS0]; · iexact HaS0
  isplitl [HaR0]; · iexact HaR0
  isplitl [HtB]; · iexact HtB
  isplitl [HtS HtR]
  · isplitl [HtS]; · iexact HtS
    iexact HtR
  isplitl [Hcr HaR]
  · isplitl [Hcr]; · iexact Hcr
    iexact HaR
  iexact HaS

/-- The chain of signals at its first step. -/
theorem sig_intro (c : Dev nD) (W : Waits sig Unit) (f : S32x16x512.Idx → Elt F .f32) :
    iprop(owes (c : Thread nD τ) (O₀ c) W ∗ (bigSep (Finset.univ.erase 0) fun r : Fin 32 => dutyTok ER (barCell (up c r)) 0 r)
        ∗ bigSep (Finset.univ.erase 0) fun s : Fin 32 => slotPts c s f) ⊢ (Sig c 1 : sProp 𝕄) := by
  unfold Sig Chain
  rw [ahead_one, behind_one, bigSep_empty, bigSep_sep' (Finset.univ.erase 0) (fun r : Fin 32 => (dutyTok ER (barCell (up c r)) 0 r : sProp 𝕄))]
  iintro ⟨HO, Ht, Hs⟩
  isplitl [HO]; · iexists W; iexact HO
  isplitl [Ht Hs]
  · isplitl [Ht]; · iexact Ht
    have hs : (bigSep (Finset.univ.erase 0) fun s : Fin 32 => (slotPts c s f : sProp 𝕄)) ⊢ bigSep (Finset.univ.erase 0) fun s : Fin 32 => iprop(∃ f, slotPts c s f) :=
      BI.bigSep_mono fun s _ => show slotPts c s f ⊢ iprop(∃ f, slotPts c s f) from by iintro H; iexists f; iexact H
    iapply hs
    iexact Hs
  iempintro

/-- The cells the body closed and the two it never used are all the device's cells, at zero. -/
theorem cells_zero (c : Dev nD) :
    iprop(semVal (barCell c) 0 ∗ (semVal (sendCell c 0) 0 ∗ bigSep (Finset.univ.erase 0) fun r : Fin 32 => semVal (sendCell c r) 0)
        ∗ semVal (recvCell c 0) 0 ∗ bigSep (Finset.univ.erase 0) fun s : Fin 32 => semVal (recvCell c s) 0)
      ⊢ (bigSep Finset.univ fun k : Cix => semVal (kcell (c, k)) 0 : sProp 𝕄) :=
  Entails.of_eq (by
    rw [bigSep_cix, bigSep_univ_at (fun r : Fin 32 => (semVal (kcell (c, some (false, r))) 0 : sProp 𝕄)) 0,
      bigSep_univ_at (fun s : Fin 32 => (semVal (kcell (c, some (true, s))) 0 : sProp 𝕄)) 0])

set_option maxHeartbeats 1000000 in
/-- The body between what the pipeline hands it and what it hands back. -/
theorem body_step (c : Dev nD) :
    bodyPre m ρ c ⊢ wp frame (wpE (defs₀ (F := F)) 𝒱₀ c none) Set.univ
      (cc0_body xM (Memref.isWhole_whole _) rwM (Memref.isWhole_whole _) idxM (Memref.isWhole_whole _) ewM (Memref.isWhole_whole _)
        oM (Memref.isWhole_whole _) pM (Memref.isWhole_whole _) gM (Memref.isWhole_whole _) cc0_scratch2 cc0_scratch3) (fun _ => bodyPost m ρ c) := by
  unfold bodyPre Φ₀ start scratch G'
  iintro ⟨⟨⟨⟨%K, #Hrec, Hlin⟩, ⟨HcB, HcR⟩, #Hlev⟩, ⟨%gp, Hp⟩, ⟨%gg, Hg⟩⟩, Ho, ⟨%d0, %g0, %hg0, Hx⟩, ⟨%d1, %g1, %hg1, Hr⟩, ⟨%d2, %g2, %hg2, Hi⟩, ⟨%d3, %g3, %hg3, Hw⟩, ⟨%d4, %g4, %hg4, Hout⟩⟩
  have hx : g0 = xIn m c := by rw [hg0]; unfold Dat.before; rw [if_pos (fetch0_0 t0_0)]; rfl
  have hr : g1 = rwIn m c := by rw [hg1]; unfold Dat.before; rw [if_pos (fetch0_1 t0_0)]; rfl
  have hi : g2 = idxIn m c := by rw [hg2]; unfold Dat.before; rw [if_pos (fetch0_2 t0_0)]; rfl
  have hw : g3 = ewIn m c := by rw [hg3]; unfold Dat.before; rw [if_pos (fetch0_3 t0_0)]; rfl
  subst hx hr hi hw
  unfold Dat.owesAt Pipeline.owesWithin
  icases Ho with ⟨%W, %hW, HO⟩
  rw [show (dats m ρ 0 c).owed t0_0.castSucc = O₀ c from rfl]
  ihave Hst := (start_parts (F := F) c) $$ [Hlin HcR]
  · isplitl [Hlin] <;> iassumption
  icases Hst with ⟨HaB, HaS0, HaR0, HtB, Hbs⟩
  ihave Hsl := (Entails.of_eq (slots_split c gg)) $$ Hg
  icases Hsl with ⟨Hg0, Hgs⟩
  ihave Hsig := (sig_intro c W gg) $$ [HO HtB Hgs]
  · isplitl [HO]; · iexact HO
    isplitl [HtB] <;> iassumption
  imod (Rounds.cell_close ER (rd (part m)) (Set.mem_univ (K (c, some (false, 0)))) (fun h => h) (R := 0) (duties_zero (part m) c false)) $$ [HaS0] with HzS
  · isplitr; · iapply (inv_at (part m) K (c, some (false, 0))); iexact Hrec
    iexact HaS0
  imod (Rounds.cell_close ER (rd (part m)) (Set.mem_univ (K (c, some (true, 0)))) (fun h => h) (R := 0) (duties_zero (part m) c true)) $$ [HaR0] with HzR
  · isplitr; · iapply (inv_at (part m) K (c, some (true, 0))); iexact Hrec
    iexact HaR0
  iapply (sound_body (P := part m) (K := K) c (xIn m c) (rwIn m c) (idxIn m c) (ewIn m c) g4 gp gg rfl fun _ => bodyPost m ρ c)
  isplitr; · iexact Hrec
  isplitl [Hsig]; · iexact Hsig
  isplitr; · iexact Hlev
  isplitl [HcB]; · iexact HcB
  isplitl [HaB]; · iexact HaB
  unfold bodyRest staged
  isplitl [Hbs]; · iexact Hbs
  isplitl [Hx Hr Hi Hw Hout]
  · isplitl [Hx]; · iexact Hx
    isplitl [Hr]; · iexact Hr
    isplitl [Hi]; · iexact Hi
    isplitl [Hw]; · iexact Hw
    iexact Hout
  isplitl [Hp]; · iexact Hp
  isplitl [Hg0]; · iexact Hg0
  unfold bodyEnd
  iintro ⟨⟨⟨%W', HO⟩, HzB, HzRs, HzSs, Hp, Hg⟩, Hx, Hr, Hi, Hw, Hout⟩
  unfold bodyPost Φ₁ scratch Dat.owesAt Pipeline.owesWithin
  rw [show (dats m ρ 0 c).owed t0_0.succ = 0 from rfl]
  isplitl [HzB HzRs HzSs HzS HzR Hp Hg]
  · isplitl [Hp Hg]
    · isplitl [Hp]; · iexists _; iexact Hp
      iexists _; iexact Hg
    iapply (cells_zero (F := F) c)
    isplitl [HzB]; · iexact HzB
    isplitl [HzS HzSs]
    · isplitl [HzS] <;> iassumption
    isplitl [HzR] <;> iassumption
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _; isplitr; · (ipureintro; rfl)
  iexact Hout

/-- The body at the pipeline's one point. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_step m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (part m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hv := (Entails.of_eq (sems0_eq (F := F) c).symm) $$ Hz
  icases Hv with ⟨Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (part m)) (G' := G' (part m)) (u₀ := u₀)
    (hu₀ := by
      unfold u₀
      iintro Hu
      ihave H := (ownU_pair _ _) $$ Hu
      icases H with ⟨HP, HX⟩
      imod (fund_all (part m)) $$ HX with HG
      imodintro
      isplitl [HP] <;> iassumption)
    (hglob := glob (part m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem final_out (c : Dev nD) : finalA m ρ c 4 = outAt m c :=
  (dats m ρ 0 c).arrAt_eq_of_after_last 4 t0_0 (by decide +kernel) (outAt m c) (fun _ => rfl)

/-- A window's one block is its whole array. -/
theorem emb_whole (w : Fin cfg0.W) (t : Fin cfg0.N) (y : ((cfg0.win w).xblock (cfg0.grid.coords t)).Idx) (a : Fin (cfg0.win w).shape.rank) :
    (((cfg0.win w).rect t).emb y a : Nat) = y a :=
  Pipeline.Window.rect_emb_val_of_index_zero _ _ _ (by fin_cases w <;> rfl) y

/-- So what is staged is the argument arrays themselves. -/
theorem xIn_eq (c : Dev nD) : xIn m c = m ((c.tc : Thread nD τ).loc main_arg0) :=
  funext fun y => congrArg (m ((c.tc : Thread nD τ).loc main_arg0)) (funext fun a => Fin.ext (emb_whole 0 t0_0 y a))
theorem rwIn_eq (c : Dev nD) : rwIn m c = m ((c.tc : Thread nD τ).loc main_arg1) :=
  funext fun y => congrArg (m ((c.tc : Thread nD τ).loc main_arg1)) (funext fun a => Fin.ext (emb_whole 1 t0_0 y a))
theorem idxIn_eq (c : Dev nD) : idxIn m c = m ((c.tc : Thread nD τ).loc main_arg2) :=
  funext fun y => congrArg (m ((c.tc : Thread nD τ).loc main_arg2)) (funext fun a => Fin.ext (emb_whole 2 t0_0 y a))
theorem ewIn_eq (c : Dev nD) : ewIn m c = m ((c.tc : Thread nD τ).loc main_arg3) :=
  funext fun y => congrArg (m ((c.tc : Thread nD τ).loc main_arg3)) (funext fun a => Fin.ext (emb_whole 3 t0_0 y a))

/-- Every fair run ends, the result of device `c` is `outAt m c`, the arguments are unchanged, every semaphore counter is zero. -/
theorem run_main : θ_run defs (onTc (τ := τ) (main (F := F))) (s₀ m ρ) (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 4).trans (final_out m ρ c), (h.1 c 0).trans ((dats m ρ 0 c).arrAt_in 0 rfl _),
      (h.1 c 1).trans ((dats m ρ 0 c).arrAt_in 1 rfl _), (h.1 c 2).trans ((dats m ρ 0 c).arrAt_in 2 rfl _),
      (h.1 c 3).trans ((dats m ρ 0 c).arrAt_in 3 rfl _)⟩, h.2⟩) (run_arrays m ρ)

end Cert.KernelIdealRun
end
-- ==== Proof.Frames.lean ====
/-
  The frames: every program terminates without a fault, leaves its arguments as they were, and ends with every semaphore
  counter at zero. For the two kernels this is `run_main`, read at the machine's floats and at the ideal values; for the
  reference, which declares no semaphore, it is its run.
-/
module

public import proofs.«01_k».proof.Defs
public import proofs.«01_k».proof.Proof.Run
public import proofs.«01_k».proof.Proof.Gen.Kernel
public import proofs.«01_k».proof.Proof.Gen.Kernel.Skeleton
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem Cert.KernelIdealRun

/-- The shape facts the precondition's text needs, for the kernel. -/
instance pre_kernel_facts : Cert.Pre_routed_KernelIdeal.Facts := ⟨by decide, by decide, by decide⟩

/-- The shape facts the precondition's text needs, for the reference. -/
instance pre_reference_facts : Cert.Pre_routed_ReferenceIdeal.Facts := ⟨by decide, by decide, by decide⟩

/-- A run's result without what it says of the values: the arguments stay and the semaphores end at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3))
      ∧ r.2.sem = fun _ => 0) := by
  refine (θ_run Cert.KernelIdeal.defs _ _).mono ?_ (run_main (F := F) m ρ)
  intro r h
  exact ⟨fun c => (h.1 c).2, h.2⟩

/-- The two kernels have one body table: the same body at the one label there is. -/
theorem tables_eq : Cert.Kernel.defs₀ (F := Bits) = Cert.KernelIdeal.defs₀ (F := Bits) := by
  unfold Cert.Kernel.defs₀ Cert.KernelIdeal.defs₀
  refine congrArg Defs.onTc (funext fun l => funext fun a => ?_)
  match l with
  | ⟨0, _⟩ => rfl
  | ⟨n + 1, h⟩ => exact absurd h (Nat.not_lt.2 (Nat.le_add_left _ _))

/-- With their windows and pipelines, which are the same, the two kernels' programs have one table of functions. -/
theorem defs_eq : Cert.Kernel.defs (F := Bits) = Cert.KernelIdeal.defs (F := Bits) := by
  unfold Cert.Kernel.defs Cert.KernelIdeal.defs
  rw [tables_eq]
  rfl

/-- The kernel, over the machine's floats: it terminates, its arguments stay, its semaphores end at zero. -/
theorem frame_kernel : Cert.quiescent_Kernel := fun m ρ _ => by
  rw [defs_eq]
  exact frame_any (F := Bits) m ρ

/-- The same of the ideal kernel. -/
theorem frame_ideal : Cert.quiescent_KernelIdeal := fun m ρ _ => frame_any (F := Ideal) m ρ

/-- The same of the ideal kernel on the inputs of the value claim. -/
theorem frame_ideal_pre : Cert.quiescent_KernelIdeal_pre_routed_KernelIdeal := fun m ρ _ => frame_any (F := Ideal) m ρ

/-- The reference declares no semaphore, so it ends with every counter at zero. -/
theorem reference_any (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD, r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
      ∧ r.2.sem = fun _ => 0) := by
  refine (θ_run Cert.ReferenceIdeal.defs _ _).mono ?_ (Cert.ReferenceIdeal.Value.run (F := Ideal) m ρ)
  intro r h
  exact ⟨fun c => (h c).2, sem_eq_zero_of_no_sems rfl r.2⟩

/-- The reference's frame. -/
theorem frame_reference : Cert.quiescent_ReferenceIdeal := fun m ρ _ => reference_any m ρ

/-- The same on the inputs of the value claim. -/
theorem frame_reference_pre : Cert.quiescent_ReferenceIdeal_pre_routed_ReferenceIdeal := fun m ρ _ => reference_any m ρ

end Cert.Frames
end
-- ==== Proof.RefText.lean ====
/-
  The reference's result, as a term over its four argument arrays, cut into the quantities it is made of: the softmax of
  the router's scores, the two columns of expert indices, the gates read at them, and the two experts' products.
-/
module

public import proofs.«01_k».proof.Proof.Gen.ReferenceIdeal
public import proofs.«01_k».proof.Proof.Gen.ReferenceIdeal.Run

@[expose] public section

noncomputable section

namespace Cert.RefValue

open Idealize.ShloMosaic Cert.ReferenceIdeal Cert.ReferenceIdeal.Gen

variable {F : FTy → Type} [FloatOps F]

/-- The router's scores: the product of the tokens with the router's weights. -/
def scores (x : FVec F S512x256 .f32) (rw : FVec F S256x128 .f32) : FVec F S512x128 .f32 :=
  Host.dotGeneral dot_S512x256_S256x128_S512x128_1_0_0_1_n_n none x rw

/-- A vector with one entry a token, laid along the columns of the score matrix. -/
def alongScores (v : FVec F S512 .f32) : FVec F S512x128 .f32 :=
  broadcastInDim S512x128 ![0, 1] bcast_S512x1_S512x128_0_1 (broadcastInDim S512x1 ![0] bcast_S512_S512x1_0 v)

/-- The exponentials of scores less their row's maximum. -/
def expScores (s : FVec F S512x128 .f32) : FVec F S512x128 .f32 :=
  Host.exp (subf s (alongScores (Host.reduce FloatOps.maximumf s (constant S_ .f32 0xFF800000#32) reducesTo_S512x128_S512_d1 h_S_)))

/-- The softmax of the scores, along each row. -/
def probs (x : FVec F S512x256 .f32) (rw : FVec F S256x128 .f32) : FVec F S512x128 .f32 :=
  Host.divf (expScores (scores x rw))
    (alongScores (Host.reduceAdd (expScores (scores x rw)) (constant S_ .f32 0x00000000#32) reducesTo_S512x128_S512_d1 h_S_))

/-- A column of indices into `n` things, a negative one counted from the end. -/
def wrapped (n : BitVec 32) (v : IVec S512 32) : IVec S512x1 32 :=
  broadcastInDim S512x1 ![0] bcast_S512_S512x1_0
    (select (cmpi .slt v (broadcastInDim S512 ![] bcast_S_S512 (constantI S_ 32 0#32)))
      (addi v (broadcastInDim S512 ![] bcast_S_S512 (constantI S_ 32 n))) v)

/-- The first column of the index array. -/
def first (idx : IVec S512x2 32) : IVec S512 32 :=
  shapeCast _ (extractStridedSlice S512x1 ![0, 0] idx slices_S512x2_S512x1_0_0) shapeCasts_S512x1_S512

/-- The second column of the index array. -/
def second (idx : IVec S512x2 32) : IVec S512 32 :=
  shapeCast _ (extractStridedSlice S512x1 ![0, 1] idx slices_S512x2_S512x1_0_1) shapeCasts_S512x1_S512

/-- The entry of a score-shaped matrix at each token's row and the index the token has in `v`. -/
def gate (p : FVec F S512x128 .f32) (v : IVec S512 32) : FVec F S512 .f32 :=
  Host.gather gather_S512x128_S512x2_S512_n_01_n_n_01_1_11 p
    (concatenate S512x2 1 [⟨S512x1, wrapped 512#32 (iotaInDim S512 32 0)⟩, ⟨S512x1, wrapped 128#32 v⟩] concatenates_S512x1_S512x1_S512x2_d1)

/-- Each token times the weights of the expert that `v` names for it. -/
def expertOf (x : FVec F S512x256 .f32) (W : FVec F S128x256x512 .f32) (v : IVec S512 32) : FVec F S512x512 .f32 :=
  Host.dotGeneral dot_S512x256_S512x256x512_S512x512_1_1_n_2_0_0 none x
    (Host.gather gather_S128x256x512_S512x1_S512x256x512_12_0_n_n_0_1_1256512 W (wrapped 128#32 v))

/-- A vector with one entry a token, laid along the columns of the result. -/
def alongResult (v : FVec F S512 .f32) : FVec F S512x512 .f32 :=
  broadcastInDim S512x512 ![0, 1] bcast_S512x1_S512x512_0_1 (broadcastInDim S512x1 ![0] bcast_S512_S512x1_0 v)

/-- The result: the two experts' products, weighted by their gates over the gates' sum. -/
def result (x : FVec F S512x256 .f32) (rw : FVec F S256x128 .f32) (idx : IVec S512x2 32) (W : FVec F S128x256x512 .f32) : FVec F S512x512 .f32 :=
  addf (mulf (alongResult (Host.divf (gate (probs x rw) (first idx)) (addf (gate (probs x rw) (first idx)) (gate (probs x rw) (second idx))))) (expertOf x W (first idx)))
    (mulf (alongResult (Host.divf (gate (probs x rw) (second idx)) (addf (gate (probs x rw) (first idx)) (gate (probs x rw) (second idx))))) (expertOf x W (second idx)))

/-- What the reference's run leaves in its result array is `result` of its four arguments. -/
theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := rfl

end Cert.RefValue
end
-- ==== Proof.RefRead.lean ====
/-
  The reference's quantities read at an index, at the ideal values: scores and products as sums, the softmax as a quotient
  of exponentials, and the entries gathered at an expert index in range as the entries at that index.
-/
module

public import proofs.«01_k».proof.Proof.RefText
public import Idealize.ShloMosaic.Lib.Pointwise

@[expose] public section

noncomputable section

namespace Cert.RefValue

open Idealize.ShloMosaic Cert.ReferenceIdeal Cert.ReferenceIdeal.Gen

/-! ## Words in range -/

/-- A word below `n`, and `n` at most 2³¹, read as a signed integer is the number it holds. -/
theorem toInt_of_lt {w : BitVec 32} {n : Nat} (hn : n ≤ 2 ^ 31) (h : w.toNat < n) : w.toInt.toNat = w.toNat := by
  rw [BitVec.toInt_eq_toNat_of_lt (by omega)]
  rfl

/-- A word in range, clamped to the range, is the number it holds. -/
theorem clamp_of_eq {w u : BitVec 32} (n : Nat) (hn : n < 2 ^ 31) (e : w = u) (h : u.toNat < n + 1) : min w.toInt.toNat n = u.toNat := by
  rw [e, toInt_of_lt (n := n + 1) (by omega) h]
  omega

/-- A word in range is not negative, so it is not counted from the end. -/
theorem select_of_lt {w c : BitVec 32} {n : Nat} (hn : n ≤ 2 ^ 31) (h : w.toNat < n) :
    Scalar.select (IntOp.cmpi CmpIPredicate.slt w 0#32) (IntOp.addi w c) w = w := by
  have h0 : IntOp.cmpi CmpIPredicate.slt w 0#32 = 0#1 := by
    unfold IntOp.cmpi
    have : w.slt 0#32 = false := by
      rw [BitVec.slt_eq_decide, BitVec.toInt_eq_toNat_of_lt (by omega)]
      simp
    simp [this]
  rw [h0]
  rfl

/-- A column of indices in range, as the reference wraps them, holds the indices. -/
theorem wrapped_apply (c : BitVec 32) (v : IVec S512 32) (t : Fin 512) {n : Nat} (hn : n ≤ 2 ^ 31) (h : (v (ix1 t)).toNat < n) :
    wrapped c v (ix2 t 0) = v (ix1 t) := by
  pointwise [wrapped]
  exact select_of_lt hn h

/-! ## Gathers -/

/-- On an axis that a gather starts along and collapses, with no batching axis, the operand's coordinate is the start index
    at `i`, the place the result's index has in the start indices, clamped. -/
theorem operandIdx_start {s si t : Shape} (d : GatherDims s si t) (j : t.Idx) (q : IVec si 32) (a : Fin s.rank) (i : si.Idx)
    (hb : a ∉ d.operandBatchingDims) (hc : a ∈ d.collapsedSliceDims) (hs : a ∈ d.startIndexMap)
    (hi : d.siIdx j ⟨List.idxOf a d.startIndexMap, List.idxOf_lt_length_iff.2 hs⟩ = i) :
    (d.operandIdx j q a).val = min (q i).toInt.toNat (s.size a - d.sliceSizes a) := by
  show d.start j q a + d.batchCoord j a + d.offCoord j a = _
  rw [GatherDims.batchCoord_eq_zero _ _ _ hb, GatherDims.offCoord_eq_zero _ _ _ (fun h => ((GatherDims.mem_sKept _ _).mp h).1 hc)]
  simp only [Nat.add_zero]
  unfold GatherDims.start
  rw [dif_pos hs, hi]

/-- On an axis that a gather neither starts along nor collapses, with no batching axis, the operand's coordinate is the
    result's. -/
theorem operandIdx_kept {s si t : Shape} (d : GatherDims s si t) (j : t.Idx) (q : IVec si 32) (a : Fin s.rank)
    (hb : a ∉ d.operandBatchingDims) (hs : a ∉ d.startIndexMap) : (d.operandIdx j q a).val = d.offCoord j a := by
  show d.start j q a + d.batchCoord j a + d.offCoord j a = _
  rw [GatherDims.batchCoord_eq_zero _ _ _ hb]
  unfold GatherDims.start
  rw [dif_neg hs]
  omega

/-- Entries of a score-shaped matrix gathered at pairs of indices: the first clamped to the rows, the second to the columns. -/
theorem gather_pair (p : FVec Ideal S512x128 .f32) (q : IVec S512x2 32) (t : Fin 512) :
    Host.gather gather_S512x128_S512x2_S512_n_01_n_n_01_1_11 p q (ix1 t)
      = p (ix2 ⟨min (q (ix2 t 0)).toInt.toNat 511, by omega⟩ ⟨min (q (ix2 t 1)).toInt.toNat 127, by omega⟩) := by
  unfold Host.gather
  refine congrArg p ?_
  funext a
  refine Fin.ext ?_
  match a with
  | ⟨0, _⟩ =>
    refine operandIdx_start _ _ _ 0 (ix2 t 0) (by decide) (by decide) (by decide) ?_
    funext b
    match b with
    | ⟨0, _⟩ => rfl
    | ⟨1, _⟩ => rfl
  | ⟨1, _⟩ =>
    refine operandIdx_start _ _ _ 1 (ix2 t 1) (by decide) (by decide) (by decide) ?_
    funext b
    match b with
    | ⟨0, _⟩ => rfl
    | ⟨1, _⟩ => rfl

/-- Rows of the stacked expert weights gathered at a column of indices, each clamped to the stack. -/
theorem gather_expert (W : FVec Ideal S128x256x512 .f32) (q : IVec S512x1 32) (t : Fin 512) (d : Fin 256) (h : Fin 512) :
    Host.gather gather_S128x256x512_S512x1_S512x256x512_12_0_n_n_0_1_1256512 W q (ix3 t d h)
      = W (ix3 ⟨min (q (ix2 t 0)).toInt.toNat 127, by omega⟩ d h) := by
  unfold Host.gather
  refine congrArg W ?_
  funext a
  refine Fin.ext ?_
  match a with
  | ⟨0, _⟩ =>
    refine operandIdx_start _ _ _ 0 (ix2 t 0) (by decide) (by decide) (by decide) ?_
    funext b
    match b with
    | ⟨0, _⟩ => rfl
    | ⟨1, _⟩ => rfl
  | ⟨1, _⟩ => exact operandIdx_kept _ _ _ 1 (by decide) (by decide)
  | ⟨2, _⟩ => exact operandIdx_kept _ _ _ 2 (by decide) (by decide)

/-- The gate of a token: its row of the score-shaped matrix at the index in `v`, when that index is in range. -/
theorem gate_apply (p : FVec Ideal S512x128 .f32) (v : IVec S512 32) (t : Fin 512) (h : (v (ix1 t)).toNat < 128) :
    gate p v (ix1 t) = p (ix2 t ⟨(v (ix1 t)).toNat, h⟩) := by
  have hi : iotaInDim S512 32 0 (ix1 t) = BitVec.ofNat 32 t.val := rfl
  have ht : (iotaInDim S512 32 0 (ix1 t)).toNat = t.val := by rw [hi, BitVec.toNat_ofNat]; omega
  have hlt : (iotaInDim S512 32 0 (ix1 t)).toNat < 512 := by rw [ht]; exact t.isLt
  unfold gate
  rw [gather_pair]
  refine congrArg p (congrArg₂ ix2 (Fin.ext ?_) (Fin.ext ?_))
  · refine (clamp_of_eq 511 (by norm_num) (Eq.trans ?_ (wrapped_apply 512#32 (iotaInDim S512 32 0) t (n := 512) (by norm_num) hlt)) hlt).trans ht
    pointwise
  · refine clamp_of_eq 127 (by norm_num) (Eq.trans ?_ (wrapped_apply 128#32 v t (n := 128) (by norm_num) h)) h
    pointwise

/-- A token times the weights of the expert `v` names for it, when that index is in range. -/
theorem expertOf_apply (x : FVec Ideal S512x256 .f32) (W : FVec Ideal S128x256x512 .f32) (v : IVec S512 32) (t h : Fin 512)
    (hv : (v (ix1 t)).toNat < 128) :
    expertOf x W v (ix2 t h) = ∑ d : Fin 256, x (ix2 t d) * W (ix3 ⟨(v (ix1 t)).toNat, hv⟩ d h) := by
  pointwise [expertOf]
  refine Finset.sum_congr rfl fun d _ => congrArg _ ?_
  rw [gather_expert]
  exact congrArg W (congrArg (fun a => ix3 a d h) (Fin.ext
    (clamp_of_eq 127 (by norm_num) (wrapped_apply 128#32 v t (n := 128) (by norm_num) hv) hv)))

/-! ## The result -/

/-- The reference's result at a token and a column: the two experts' products there, each times its gate over the sum of
    the two gates. -/
theorem result_apply (x : FVec Ideal S512x256 .f32) (rw : FVec Ideal S256x128 .f32) (idx : IVec S512x2 32) (W : FVec Ideal S128x256x512 .f32)
    (hidx : ∀ (t : Fin 512) (k : Fin 2), (idx (ix2 t k)).toNat < 128) (t h : Fin 512) :
    result x rw idx W (ix2 t h)
      = Ideal.div (probs x rw (ix2 t ⟨_, hidx t 0⟩)) (probs x rw (ix2 t ⟨_, hidx t 0⟩) + probs x rw (ix2 t ⟨_, hidx t 1⟩))
          * (∑ d : Fin 256, x (ix2 t d) * W (ix3 ⟨_, hidx t 0⟩ d h))
        + Ideal.div (probs x rw (ix2 t ⟨_, hidx t 1⟩)) (probs x rw (ix2 t ⟨_, hidx t 0⟩) + probs x rw (ix2 t ⟨_, hidx t 1⟩))
          * (∑ d : Fin 256, x (ix2 t d) * W (ix3 ⟨_, hidx t 1⟩ d h)) := by
  have e0 : first idx (ix1 t) = idx (ix2 t 0) := by pointwise [first]
  have e1 : second idx (ix1 t) = idx (ix2 t 1) := by pointwise [second]
  have h0 : (first idx (ix1 t)).toNat < 128 := by rw [e0]; exact hidx t 0
  have h1 : (second idx (ix1 t)).toNat < 128 := by rw [e1]; exact hidx t 1
  pointwise [result, alongResult]
  rw [gate_apply _ _ t h0, gate_apply _ _ t h1, expertOf_apply _ _ _ t h h0, expertOf_apply _ _ _ t h h1]
  simp only [e0, e1]

end Cert.RefValue
end
-- ==== Proof.Real.lean ====
/-
  Extended reals: finite and positive values, and the sum over all experts in which only the chosen ones count.
-/
module

public import proofs.«01_k».proof.Proof.RefRead

@[expose] public section

noncomputable section

namespace Cert.RefValue

open Idealize.ShloMosaic Cert.ReferenceIdeal Cert.ReferenceIdeal.Gen

/-- `a` is a real number: not an infinity. -/
def IsReal (a : EReal) : Prop := ∃ r : ℝ, a = r

/-- `a` is a positive real number. -/
def IsPos (a : EReal) : Prop := ∃ r : ℝ, 0 < r ∧ a = r

theorem IsPos.add {a b : EReal} (ha : IsPos a) (hb : IsPos b) : IsPos (a + b) := by
  obtain ⟨r, hr, rfl⟩ := ha
  obtain ⟨q, hq, rfl⟩ := hb
  exact ⟨r + q, by positivity, (EReal.coe_add r q).symm⟩

theorem IsPos.div {a b : EReal} (ha : IsPos a) (hb : IsPos b) : IsPos (Ideal.div a b) := by
  obtain ⟨r, hr, rfl⟩ := ha
  obtain ⟨q, hq, rfl⟩ := hb
  exact ⟨r * (1 / q), by positivity, by rw [Ideal.div_coe hq.ne', EReal.coe_mul]⟩

theorem IsReal.sub {a b : EReal} (ha : IsReal a) (hb : IsReal b) : IsReal (a - b) := by
  obtain ⟨r, rfl⟩ := ha
  obtain ⟨q, rfl⟩ := hb
  exact ⟨r - q, (EReal.coe_sub r q).symm⟩

theorem IsReal.exp {a : EReal} (ha : IsReal a) : IsPos (Ideal.exp a) := by
  obtain ⟨r, rfl⟩ := ha
  exact ⟨Real.exp r, Real.exp_pos r, rfl⟩

/-- A finite sum of products of reals is real. -/
theorem isReal_sum_mul {ι : Type} (S : Finset ι) (f g : ι → EReal) (hf : ∀ i, IsReal (f i)) (hg : ∀ i, IsReal (g i)) :
    IsReal (∑ i ∈ S, f i * g i) := by
  classical
  induction S using Finset.induction_on with
  | empty => exact ⟨0, by simp⟩
  | insert i S hi ih =>
    rw [Finset.sum_insert hi]
    obtain ⟨r, hr⟩ := ih
    obtain ⟨p, hp⟩ := hf i
    obtain ⟨q, hq⟩ := hg i
    exact ⟨p * q + r, by rw [hr, hp, hq, EReal.coe_add, EReal.coe_mul]⟩

/-- A sum of positive reals over a nonempty set is a positive real. -/
theorem isPos_sum {n : Nat} (f : Fin (n + 1) → EReal) (hf : ∀ i, IsPos (f i)) : IsPos (∑ i, f i) := by
  induction n with
  | zero => simpa using hf 0
  | succ n ih =>
    rw [Fin.sum_univ_succ]
    exact (hf 0).add (ih (fun i => f i.succ) fun i => hf i.succ)

/-- The greatest of reals over a nonempty set, from below all of them, is real. -/
theorem isReal_fold_max {n : Nat} (f : Fin (n + 1) → EReal) (hf : ∀ i, IsReal (f i)) : IsReal (Finset.fold max ⊥ f Finset.univ) := by
  have hlt : Finset.fold max ⊥ f Finset.univ < ⊤ := by
    rw [Finset.fold_max_lt]
    refine ⟨bot_lt_top, fun i _ => ?_⟩
    obtain ⟨r, hr⟩ := hf i
    rw [hr]
    exact EReal.coe_lt_top r
  have hgt : ⊥ < Finset.fold max ⊥ f Finset.univ := by
    rw [Finset.lt_fold_max]
    obtain ⟨r, hr⟩ := hf 0
    exact .inr ⟨0, Finset.mem_univ _, by rw [hr]; exact EReal.bot_lt_coe r⟩
  exact ⟨_, (EReal.coe_toReal hlt.ne hgt.ne').symm⟩

/-- At finite tokens and router weights, every entry of the softmax is a positive real. -/
theorem probs_pos (x : FVec Ideal S512x256 .f32) (rw : FVec Ideal S256x128 .f32) (hx : ∀ i, IsReal (x i)) (hrw : ∀ i, IsReal (rw i))
    (j : S512x128.Idx) : IsPos (probs x rw j) := by
  have hs : ∀ i, IsReal (scores x rw i) := fun i => by
    pointwise [scores]
    exact isReal_sum_mul _ _ _ (fun _ => hx _) (fun _ => hrw _)
  have he : ∀ i, IsPos (expScores (scores x rw) i) := fun i => by
    have hb : Ideal.ofBits .f32 0xFF800000#32 = ⊥ := by simp [Ideal.ofBits, Ideal.ieee]
    pointwise [expScores, alongScores]
    rw [hb]
    exact ((hs i).sub (isReal_fold_max _ fun k => hs _)).exp
  pointwise [probs, alongScores]
  exact (he j).div (isPos_sum _ fun k => he _)

/-! ## The sum over the experts -/

/-- A nonnegative real times a finite sum. -/
theorem mul_sum_of_real {ι : Type} (S : Finset ι) (f : ι → EReal) {a : EReal} (h0 : 0 ≤ a) (ht : a ≠ ⊤) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 ht, ih]

/-- One if the proposition holds, else zero. -/
def ind (p : Prop) [Decidable p] : EReal := if p then 1 else 0

/-- What a token's products with all the experts come to, each expert weighted by the gates of the choices that name it:
    the two chosen experts' products, each times its gate. -/
theorem sum_chosen {n k : Nat} (w0 w1 : EReal) (h0 : IsPos w0) (h1 : IsPos w1) (e0 e1 : Fin n) (x : Fin k → EReal) (W : Fin n → Fin k → EReal) :
    ∑ e : Fin n, ∑ d : Fin k, x d * (w0 * ind (e0 = e) + w1 * ind (e1 = e)) * W e d
      = w0 * (∑ d : Fin k, x d * W e0 d) + w1 * (∑ d : Fin k, x d * W e1 d) := by
  have nn : ∀ {w : EReal}, IsPos w → 0 ≤ w := by
    rintro w ⟨r, hr, rfl⟩
    exact_mod_cast hr.le
  have nt : ∀ {w : EReal}, IsPos w → w ≠ ⊤ := by
    rintro w ⟨r, hr, rfl⟩
    exact EReal.coe_ne_top r
  have part : ∀ (w : EReal) (e' e : Fin n), IsPos w → 0 ≤ w * ind (e' = e) ∧ w * ind (e' = e) ≠ ⊤ := by
    intro w e' e hw
    unfold ind
    split
    · rw [mul_one]; exact ⟨nn hw, nt hw⟩
    · rw [mul_zero]; exact ⟨le_refl _, EReal.zero_ne_top⟩
  have one : ∀ (w : EReal) (e' : Fin n), IsPos w → ∑ e : Fin n, (w * ind (e' = e)) * (∑ d : Fin k, x d * W e d) = w * ∑ d : Fin k, x d * W e' d := by
    intro w e' hw
    rw [Finset.sum_eq_single e']
    · simp [ind]
    · intro e _ he
      rw [show ind (e' = e) = 0 from if_neg (fun h => he h.symm)]
      simp
    · intro h
      exact absurd (Finset.mem_univ _) h
  rw [← one w0 e0 h0, ← one w1 e1 h1, ← Finset.sum_add_distrib]
  refine Finset.sum_congr rfl fun e _ => ?_
  obtain ⟨a0, b0⟩ := part w0 e0 e h0
  obtain ⟨a1, b1⟩ := part w1 e1 e h1
  rw [← EReal.right_distrib_of_nonneg a0 a1, mul_sum_of_real _ _ (add_nonneg a0 a1) (EReal.add_ne_top b0 b1)]
  refine Finset.sum_congr rfl fun d _ => ?_
  rw [mul_comm (x d), mul_assoc]

end Cert.RefValue
end
-- ==== Proof.KernelRead.lean ====
/-
# The kernel's partial products, element by element

Element `(t, h)` of the table device `c` computes: over its four experts, the token's product with the expert's weights, each
scaled by the gates of the choices that name the expert. The device's result adds a row of it over all the devices.
-/
module

public import proofs.«01_k».proof.Proof.Real
public import proofs.«01_k».proof.Proof.Body
public import Idealize.ShloMosaic.Lib.Pointwise

@[expose] public section

noncomputable section

namespace Cert.KernelIdealRun

open Idealize.ShloMosaic Cert.KernelIdeal Cert.KernelIdeal.Gen Cert.RefValue

/-! ## Words -/

/-- A comparison for equality, read as a number. -/
theorem bit_ind (a b : BitVec 32) : FloatOps.sitofp (F := Ideal) .f32 (BitVec.setWidth 32 (IntOp.cmpi .eq a b)) = ind (a = b) := by
  unfold ind
  by_cases h : a = b
  · rw [if_pos h, show IntOp.cmpi .eq a b = 1#1 by simp [IntOp.cmpi, h]]
    show (((BitVec.setWidth 32 1#1).toInt : ℝ) : EReal) = 1
    rw [show (BitVec.setWidth 32 1#1).toInt = 1 by decide]
    simp
  · rw [if_neg h, show IntOp.cmpi .eq a b = 0#1 by simp [IntOp.cmpi, beq_eq_false_iff_ne.mpr h]]
    show (((BitVec.setWidth 32 0#1).toInt : ℝ) : EReal) = 0
    rw [show (BitVec.setWidth 32 0#1).toInt = 0 by decide]
    simp

/-- The number of expert `k` of device `c`, as the kernel computes it. -/
theorem word_of : ∀ (c : Dev nD) (k : Fin 4),
    Scalar.addi (Scalar.muli (devWord c) 4#32) (BitVec.ofNat 32 k.val) = BitVec.ofNat 32 (4 * c.val + k.val) := by
  decide

/-- Expert `k` of device `c`, among all the experts. -/
abbrev expOf (c : Fin 32) (k : Fin 4) : Fin 128 := ⟨4 * c.val + k.val, by omega⟩

/-- A word below 128 is the number it names. -/
theorem word_eq_iff {v : BitVec 32} (hv : v.toNat < 128) (e : Fin 128) : v = BitVec.ofNat 32 e.val ↔ (⟨v.toNat, hv⟩ : Fin 128) = e := by
  have he : (BitVec.ofNat 32 e.val).toNat = e.val := by
    rw [BitVec.toNat_ofNat]
    exact Nat.mod_eq_of_lt (by omega)
  constructor
  · intro h
    exact Fin.ext ((congrArg BitVec.toNat h).trans he)
  · intro h
    exact BitVec.eq_of_toNat_eq (by rw [he, ← h])

/-- Whether a choice names expert `k` of device `c`, as the kernel decides it. -/
theorem bit_chosen {v : BitVec 32} (hv : v.toNat < 128) (c : Dev nD) (k : Fin 4) :
    FloatOps.sitofp (F := Ideal) .f32 (BitVec.setWidth 32 (IntOp.cmpi .eq v (Scalar.addi (Scalar.muli (devWord c) 4#32) (BitVec.ofNat 32 k.val))))
      = ind ((⟨v.toNat, hv⟩ : Fin 128) = expOf c k) := by
  rw [bit_ind, word_of]
  unfold ind
  exact if_congr (word_eq_iff hv (expOf c k)) rfl rfl

/-- The sum over the experts in which only the named one counts is its term. -/
theorem sum_named {v : BitVec 32} (hv : v.toNat < 128) (p : Fin 128 → EReal) :
    ∑ e : Fin 128, Scalar.select (IntOp.cmpi .eq (BitVec.ofNat 32 e.val) v) (p e) 0 = p ⟨v.toNat, hv⟩ := by
  rw [Finset.sum_eq_single (⟨v.toNat, hv⟩ : Fin 128)]
  · rw [← (word_eq_iff hv ⟨v.toNat, hv⟩).mpr rfl]
    simp [IntOp.cmpi, Scalar.select]
  · intro e _ he
    have : ¬ BitVec.ofNat 32 e.val = v := fun h => he ((word_eq_iff hv e).mp h.symm).symm
    simp [IntOp.cmpi, Scalar.select, beq_eq_false_iff_ne.mpr this]
  · intro h
    exact absurd (Finset.mem_univ _) h

/-! ## The loads -/

theorem xAll_eq (g : Vec Ideal S512x256 .f32) : xAll g = g := Memref.readAt_unit_zero (Elt Ideal) cc0_stg0_0 hz2 _ g
theorem rwAll_eq (g : Vec Ideal S256x128 .f32) : rwAll g = g := Memref.readAt_unit_zero (Elt Ideal) cc0_stg1_0 hz2 _ g

theorem col0_apply (g : Vec Ideal S512x2 .i32) (t : Fin 512) : col0 g (ix2 t 0) = g (ix2 t 0) := by
  refine congrArg g (funext fun a => Fin.ext ?_)
  fin_cases a
  · show 0 + 1 * t.val = t.val
    omega
  · rfl

theorem col1_apply (g : Vec Ideal S512x2 .i32) (t : Fin 512) : col1 g (ix2 t 0) = g (ix2 t 1) := by
  refine congrArg g (funext fun a => Fin.ext ?_)
  fin_cases a
  · show 0 + 1 * t.val = t.val
    omega
  · rfl

theorem expert_apply (e : Fin 4) (hin) (g : Vec Ideal S4x256x512 .f32) (d : Fin 256) (h : Fin 512) :
    expert e.val hin g (ix3 0 d h) = g (ix3 e d h) := by
  refine congrArg g (funext fun a => Fin.ext ?_)
  fin_cases a
  · show e.val + 1 * 0 = e.val
    omega
  · show 0 + 1 * d.val = d.val
    omega
  · show 0 + 1 * h.val = h.val
    omega

/-! ## The gates -/

/-- The softmax the kernel computes is the reference's. -/
theorem probs_eq (x : Vec Ideal S512x256 .f32) (rw : Vec Ideal S256x128 .f32) : k0_pay2 x rw = probs x rw := by
  funext j
  pointwise [k0_pay2, k0_pay1, probs, alongScores, expScores, scores]

section
variable (x : Vec Ideal S512x256 .f32) (rw : Vec Ideal S256x128 .f32) (idx : Vec Ideal S512x2 .i32)
variable (hidx : ∀ (t : Fin 512) (k : Fin 2), (idx (ix2 t k)).toNat < 128)

/-- The softmax entry of token `t` at its choice `k`. -/
def pAt (t : Fin 512) (k : Fin 2) : EReal := probs (F := Ideal) x rw (ix2 t ⟨_, hidx t k⟩)

/-- The first choice's entry, as the kernel picks it out. -/
theorem pay5_apply (t : Fin 512) : k0_pay5 (F := Ideal) x rw (col0 idx) (ix2 t 0) = pAt x rw idx hidx t 0 := by
  pointwise [k0_pay5, k0_pay3]
  rw [col0_apply, probs_eq]
  exact sum_named (hidx t 0) fun e => probs (F := Ideal) x rw (ix2 t e)

/-- The second choice's. -/
theorem pay7_apply (t : Fin 512) : k0_pay7 (k0_pay2 (F := Ideal) x rw) (k0_pay6 (F := Ideal) (col1 idx)) (ix2 t 0) = pAt x rw idx hidx t 1 := by
  pointwise [k0_pay7, k0_pay6, k0_pay4]
  rw [col1_apply, probs_eq]
  exact sum_named (hidx t 1) fun e => probs (F := Ideal) x rw (ix2 t e)

/-- The gate of token `t`'s choice `k`: its softmax entry, over the two choices' sum. -/
def gAt (t : Fin 512) (k : Fin 2) : EReal := Ideal.div (pAt x rw idx hidx t k) (pAt x rw idx hidx t 0 + pAt x rw idx hidx t 1)

theorem pay9_apply (t : Fin 512) :
    k0_pay9 (k0_pay2 (F := Ideal) x rw) (k0_pay5 x rw (col0 idx)) (k0_pay6 (F := Ideal) (col1 idx)) (ix2 t 0) = gAt x rw idx hidx t 0 := by
  show Ideal.div (k0_pay5 (F := Ideal) x rw (col0 idx) (ix2 t 0)) (k0_pay5 (F := Ideal) x rw (col0 idx) (ix2 t 0) + k0_pay7 (F := Ideal) _ _ (ix2 t 0)) = _
  rw [pay5_apply x rw idx hidx, pay7_apply x rw idx hidx]
  rfl

theorem pay10_apply (t : Fin 512) :
    k0_pay10 (k0_pay2 (F := Ideal) x rw) (k0_pay5 x rw (col0 idx)) (k0_pay6 (F := Ideal) (col1 idx)) (ix2 t 0) = gAt x rw idx hidx t 1 := by
  show Ideal.div (k0_pay7 (F := Ideal) _ _ (ix2 t 0)) (k0_pay5 (F := Ideal) x rw (col0 idx) (ix2 t 0) + k0_pay7 (F := Ideal) _ _ (ix2 t 0)) = _
  rw [pay5_apply x rw idx hidx, pay7_apply x rw idx hidx]
  rfl

/-! ## The table -/

/-- Token `t`'s product with one expert's weights, scaled by the gates of the choices that name the expert `e`. -/
def term (t h : Fin 512) (e : Fin 128) (W : Fin 256 → EReal) : EReal :=
  ∑ d : Fin 256, x (ix2 t d)
    * (gAt x rw idx hidx t 0 * ind ((⟨_, hidx t 0⟩ : Fin 128) = e) + gAt x rw idx hidx t 1 * ind ((⟨_, hidx t 1⟩ : Fin 128) = e)) * W d

/-- One expert's part as the kernel's operations have it is `term`. -/
theorem term_eq (c : Dev nD) (k : Fin 4) (hin) (gw : Vec Ideal S4x256x512 .f32) (t h : Fin 512) :
    ∑ d : Fin 256, x (ix2 t d)
        * (gAt x rw idx hidx t 0 * FloatOps.sitofp (F := Ideal) .f32 (BitVec.setWidth 32
              (IntOp.cmpi .eq (idx (ix2 t 0)) (Scalar.addi (Scalar.muli (devWord c) 4#32) (BitVec.ofNat 32 k.val))))
          + gAt x rw idx hidx t 1 * FloatOps.sitofp (F := Ideal) .f32 (BitVec.setWidth 32
              (IntOp.cmpi .eq (idx (ix2 t 1)) (Scalar.addi (Scalar.muli (devWord c) 4#32) (BitVec.ofNat 32 k.val)))))
        * expert k.val hin gw (ix3 0 d h)
      = term x rw idx hidx t h (expOf c k) fun d => gw (ix3 k d h) := by
  unfold term
  refine Finset.sum_congr rfl fun d _ => ?_
  rw [bit_chosen (hidx t 0), bit_chosen (hidx t 1), expert_apply]

/-- Element `(t, h)` of device `c`'s table. -/
theorem partialOf_apply (c : Dev nD) (gw : Vec Ideal S4x256x512 .f32) (t h : Fin 512) :
    partialOf (F := Ideal) c x rw idx gw (ix2 t h)
      = ∑ k : Fin 4, term x rw idx hidx t h (expOf c k) fun d => gw (ix3 k d h) := by
  unfold partialOf
  rw [xAll_eq, rwAll_eq]
  pointwise [k0_pay13, k0_pay12, k0_pay11, k0_pay1, k0_pay3, k0_pay4]
  simp only [pay9_apply x rw idx hidx, pay10_apply x rw idx hidx, col0_apply, col1_apply]
  rw [Fin.sum_univ_four]
  exact congrArg₂ (· + ·) (congrArg₂ (· + ·) (congrArg₂ (· + ·) (term_eq x rw idx hidx c 0 _ gw t h) (term_eq x rw idx hidx c 1 _ gw t h))
    (term_eq x rw idx hidx c 2 _ gw t h)) (term_eq x rw idx hidx c 3 _ gw t h)

end

/-! ## The result -/

/-- Element `(r, h)` of a device's result: the sum of the slots'. -/
theorem pay15_apply (g : Vec Ideal S32x16x512 .f32) (r : Fin 16) (h : Fin 512) :
    k0_pay15 (F := Ideal) g (ix2 r h) = ∑ s : Fin 32, g (ix3 s r h) := by
  pointwise [k0_pay15]

/-- Device `c`'s result, from every device's table: the rows `c` keeps, added over the devices. -/
theorem out_apply (P : Dev nD → S512x512.Idx → Elt Ideal .f32) (c : Fin 32) (r : Fin 16) (h : Fin 512) :
    k0_pay15 (F := Ideal) (gath P c) (ix2 r h) = ∑ b : Fin 32, P b (ix2 (rowOf c r) h) := by
  rw [pay15_apply]
  exact Equiv.sum_comp (Equiv.addLeft c) fun b : Fin 32 => P b (ix2 (rowOf c r) h)

end Cert.KernelIdealRun
end
-- ==== Proof.Value.lean ====
/-
# The value claim

On inputs with finite tokens and router weights whose routes name experts there are, the devices' results are the blocks of the
reference's result: the devices' tables, added up, run through all the experts once, and of those only the two a token chose
count, each with its gate.
-/
module

public import proofs.«01_k».proof.Proof.Frames
public import proofs.«01_k».proof.Proof.KernelRead

@[expose] public section

noncomputable section

namespace Cert.Frames

open Idealize.ShloMosaic Idealize.SL.Sem Cert.KernelIdealRun Cert.RefValue

/-! ## What the precondition says -/

/-- A value whose absolute value lies below the greatest is real. -/
theorem isReal_of_abs {a : EReal} (h : Ideal.cmp .olt (max a (-a)) ⊤ = 1#1) : IsReal a := by
  induction a with
  | bot => simp [Ideal.cmp] at h
  | top => simp [Ideal.cmp] at h
  | coe r => exact ⟨r, rfl⟩

/-- A word between 0 and 128, both comparisons signed, is below 128 as a number. -/
theorem lt_of_bits (v : BitVec 32) (h : IntOp.cmpi .sge v 0#32 &&& IntOp.cmpi .slt v 128#32 = 1#1) : v.toNat < 128 := by
  have hl : BitVec.slt v 128#32 = true := by
    by_contra hn
    rw [show IntOp.cmpi .slt v 128#32 = 0#1 by simp [IntOp.cmpi, hn]] at h
    simp at h
  have hg : BitVec.sle 0#32 v = true := by
    by_contra hn
    rw [show IntOp.cmpi .sge v 0#32 = 0#1 by simp [IntOp.cmpi, hn]] at h
    simp at h
  rw [BitVec.slt_iff_toInt_lt] at hl
  rw [BitVec.sle_iff_toInt_le] at hg
  have h1 : (128#32).toInt = 128 := by decide
  have h2 : (0#32).toInt = 0 := by decide
  rw [h1] at hl
  rw [h2] at hg
  rw [BitVec.toInt_eq_toNat_cond] at hl hg
  split at hl <;> omega

section
variable (x : FVec Ideal Cert.KernelIdeal.S512x256 .f32) (rw : FVec Ideal Cert.KernelIdeal.S256x128 .f32)
variable (idx : IVec Cert.KernelIdeal.S512x2 32) (ew : FVec Ideal Cert.KernelIdeal.S4x256x512 .f32)

theorem x_real (h : (Cert.Pre_routed_KernelIdeal.fn (F := Ideal) x rw idx ew).1 = fun _ => 1#1) (i) : IsReal (x i) := by
  have ht : Ideal.ofBits .f32 0x7F800000#32 = ⊤ := by simp [Ideal.ofBits, Ideal.ieee]
  refine isReal_of_abs (Eq.trans ?_ (congrFun h i))
  rw [← ht]
  rfl

theorem rw_real (h : (Cert.Pre_routed_KernelIdeal.fn (F := Ideal) x rw idx ew).2.1 = fun _ => 1#1) (i) : IsReal (rw i) := by
  have ht : Ideal.ofBits .f32 0x7F800000#32 = ⊤ := by simp [Ideal.ofBits, Ideal.ieee]
  refine isReal_of_abs (Eq.trans ?_ (congrFun h i))
  rw [← ht]
  rfl

theorem idx_lt (h : (Cert.Pre_routed_KernelIdeal.fn (F := Ideal) x rw idx ew).2.2 = fun _ => 1#1) (i) : (idx i).toNat < 128 :=
  lt_of_bits _ (congrFun h i)
end

/-! ## The sum of the tables -/

/-- A sum over the devices and each one's four experts is a sum over the experts. -/
theorem sum_experts (f : Fin 128 → EReal) : ∑ c : Fin 32, ∑ k : Fin 4, f (expOf c k) = ∑ e : Fin 128, f e := by
  rw [← Fintype.sum_prod_type' (f := fun (c : Fin 32) (k : Fin 4) => f (expOf c k))]
  refine Fintype.sum_equiv (finProdFinEquiv (m := 32) (n := 4)) _ _ fun p => congrArg f (Fin.ext ?_)
  show 4 * p.1.val + p.2.val = p.2.val + 4 * p.1.val
  omega

section
variable (x : Vec Ideal Cert.KernelIdeal.S512x256 .f32) (rw : Vec Ideal Cert.KernelIdeal.S256x128 .f32)
variable (idx : Vec Ideal Cert.KernelIdeal.S512x2 .i32) (W : FVec Ideal Cert.ReferenceIdeal.S128x256x512 .f32)

/-- The devices' tables, each from its own four of the experts, added up: the reference's result. -/
theorem sum_tables (hx : ∀ i, IsReal (x i)) (hrw : ∀ i, IsReal (rw i)) (hidx : ∀ (t : Fin 512) (k : Fin 2), (idx (ix2 t k)).toNat < 128)
    (ew : Fin 32 → Vec Ideal Cert.KernelIdeal.S4x256x512 .f32) (hew : ∀ c k d h, ew c (ix3 k d h) = W (ix3 (expOf c k) d h)) (t h : Fin 512) :
    ∑ c : Fin 32, partialOf (F := Ideal) c x rw idx (ew c) (ix2 t h) = result x rw idx W (ix2 t h) := by
  have hp : ∀ k, IsPos (pAt x rw idx hidx t k) := fun k => probs_pos x rw hx hrw _
  rw [result_apply x rw idx W hidx]
  refine Eq.trans ?_ (sum_chosen (gAt x rw idx hidx t 0) (gAt x rw idx hidx t 1) ((hp 0).div ((hp 0).add (hp 1))) ((hp 1).div ((hp 0).add (hp 1)))
    ⟨_, hidx t 0⟩ ⟨_, hidx t 1⟩ (fun d : Fin 256 => x (ix2 t d)) fun e d => W (ix3 e d h))
  rw [← sum_experts]
  refine Finset.sum_congr rfl fun c _ => (partialOf_apply x rw idx hidx c (ew c) t h).trans (Finset.sum_congr rfl fun k _ => ?_)
  unfold term
  exact Finset.sum_congr rfl fun d _ => congrArg (_ * ·) (hew c k d h)
end

/-! ## The claim -/

/-- Where element `(k, d, h)` of device `c`'s experts is among all the experts' weights. -/
theorem expert_block (c : Fin 32) (W : FVec Ideal Cert.ReferenceIdeal.S128x256x512 .f32) (k : Fin 4) (d : Fin 256) (h : Fin 512) :
    Layout.block ⟨3, ![4, 256, 512]⟩ ⟨3, ![128, 256, 512]⟩ 0 32 c W (by decide) (ix3 k d h) = W (ix3 (expOf c k) d h) := by
  refine congrArg W (funext fun a => Fin.ext ?_)
  fin_cases a
  · show c.val * 4 + k.val = 4 * c.val + k.val
    omega
  · rfl
  · rfl

/-- Where row `r` of device `c`'s result is in the whole result. -/
theorem row_block (c : Fin 32) (v : FVec Ideal Cert.ReferenceIdeal.S512x512 .f32) (r : Fin 16) (h : Fin 512) :
    Layout.block ⟨2, ![16, 512]⟩ ⟨2, ![512, 512]⟩ 0 32 c v (by decide) (ix2 r h) = v (ix2 (rowOf c r) h) := by
  refine congrArg v (funext fun a => Fin.ext ?_)
  fin_cases a
  · show c.val * 16 + r.val = 16 * c.val + r.val
    omega
  · rfl

/-- Over the ideal values each device's result is its block of the reference's result. -/
theorem algebraic : Cert.algebraic_KernelIdeal_ReferenceIdeal_pre_routed_KernelIdeal := by
  intro m g m' g' hpre hag
  refine ⟨Cert.ReferenceIdeal.Value.res_out0 m' 0, ?_, ?_⟩
  · refine (θ_run Cert.KernelIdeal.defs _ _).mono ?_ (run_main (F := Ideal) m g)
    intro r hr c
    refine ⟨(hr.1 c).1.trans ?_, (hr.1 c).2⟩
    obtain ⟨p0, p1, p2⟩ := hpre 0
    obtain ⟨e0, e1, e2, -⟩ := hag 0
    have hx := x_real _ _ _ _ p0
    have hrw := rw_real _ _ _ _ p1
    have hidx := idx_lt _ _ _ _ p2
    rw [e0] at hx
    rw [e1] at hrw
    rw [e2] at hidx
    funext i
    rw [eq_ix2 i]
    refine (out_apply (part m) c (i 0) (i 1)).trans (Eq.trans ?_ (row_block c (Cert.ReferenceIdeal.Value.res_out0 m' 0) (i 0) (i 1)).symm)
    rw [res_eq]
    refine Eq.trans (Finset.sum_congr rfl fun b _ => ?_) (sum_tables _ _ _ _ hx hrw (fun t k => hidx _)
      (fun b => Layout.block ⟨3, ![4, 256, 512]⟩ ⟨3, ![128, 256, 512]⟩ 0 32 b (m' (((0 : Dev Cert.ReferenceIdeal.nD).tc : Thread Cert.ReferenceIdeal.nD Cert.ReferenceIdeal.τ).loc Cert.ReferenceIdeal.main_arg3)))
      (fun b k d h => expert_block b _ k d h) _ _)
    show partialOf (F := Ideal) b (xIn m b) (rwIn m b) (idxIn m b) (ewIn m b) _ = _
    obtain ⟨b0, b1, b2, b3⟩ := hag b
    rw [xIn_eq, rwIn_eq, idxIn_eq, ewIn_eq, b0, b1, b2, b3]
  · refine (θ_run Cert.ReferenceIdeal.defs _ _).mono ?_ (Cert.ReferenceIdeal.Value.run (F := Ideal) m' g')
    intro r hr
    exact hr 0

end Cert.Frames
end
-- ==== Proof.lean ====
/-
  The certificate: the frames of the three programs, that the ideal kernel is the kernel over the extended reals, and that each
  device's result is its block of the reference's result.
-/
module

public import proofs.«01_k».proof.Defs
public import proofs.«01_k».proof.Proof.Frames
public import proofs.«01_k».proof.Proof.Value

@[expose] public section

noncomputable section

namespace Cert.Proof

open Idealize.ShloMosaic Idealize.SL.Sem Cert.Frames

/-- Every claim of the certificate. -/
theorem claim : Cert.Claim :=
  ⟨Cert.Kernel.Gen.facts, Cert.KernelIdeal.Gen.facts, Cert.ReferenceIdeal.Gen.facts, pre_kernel_facts, pre_reference_facts,
    frame_kernel, frame_ideal, frame_ideal_pre, frame_reference, frame_reference_pre, trivial, algebraic⟩

end Cert.Proof

end
